-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range_KernelIdeal [hPre_in_range_KernelIdeal : Cert.Pre_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range_ReferenceIdeal [hPre_in_range_ReferenceIdeal : Cert.Pre_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range_KernelIdeal [hKernelIdeal : Cert.KernelIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range_ReferenceIdeal [hReferenceIdeal : Cert.ReferenceIdeal.Facts] [hPre_in_range_ReferenceIdeal : Cert.Pre_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range_KernelIdeal [hKernelIdeal : Cert.KernelIdeal.Facts] [hReferenceIdeal : Cert.ReferenceIdeal.Facts] [hPre_in_range_KernelIdeal : Cert.Pre_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![131072, 512]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range_KernelIdeal : Cert.Pre_in_range_KernelIdeal.Facts) (hPre_in_range_ReferenceIdeal : Cert.Pre_in_range_ReferenceIdeal.Facts),
    quiescent_Kernel (hKernel := hKernel)
    ∧ quiescent_KernelIdeal (hKernelIdeal := hKernelIdeal)
    ∧ quiescent_KernelIdeal_pre_in_range_KernelIdeal (hKernelIdeal := hKernelIdeal) (hPre_in_range_KernelIdeal := hPre_in_range_KernelIdeal)
    ∧ quiescent_ReferenceIdeal (hReferenceIdeal := hReferenceIdeal)
    ∧ quiescent_ReferenceIdeal_pre_in_range_ReferenceIdeal (hReferenceIdeal := hReferenceIdeal) (hPre_in_range_ReferenceIdeal := hPre_in_range_ReferenceIdeal)
    ∧ preserves_Kernel_KernelIdeal
    ∧ algebraic_KernelIdeal_ReferenceIdeal_pre_in_range_KernelIdeal (hKernelIdeal := hKernelIdeal) (hReferenceIdeal := hReferenceIdeal) (hPre_in_range_KernelIdeal := hPre_in_range_KernelIdeal)
-- ==== Pre_in_range_KernelIdeal.lean ====
abbrev S4096x512 : Shape := ⟨2, ![4096, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S4096x512 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 131072#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Pre_in_range_ReferenceIdeal.lean ====
abbrev S131072x512 : Shape := ⟨2, ![131072, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S131072x512 .f32) (main_arg1 : IVec S1024 32) : IVec S_ 1 :=
  let main_c : IVec S_ 32 := constantI S_ 32 0#32
  let main_v0 : IVec S1024 32 := broadcastInDim S1024 ![] bcast_S_S1024 main_c
  let main_v1 : IVec S1024 1 := cmpi .sge main_arg1 main_v0
  let main_c_0 : IVec S_ 32 := constantI S_ 32 131072#32
  let main_v2 : IVec S1024 32 := broadcastInDim S1024 ![] bcast_S_S1024 main_c_0
  let main_v3 : IVec S1024 1 := cmpi .slt main_arg1 main_v2
  let main_v4 : IVec S1024 1 := andi main_v1 main_v3
  let main_c_1 : IVec S_ 1 := constantI S_ 1 1#1
  let main_v5 : IVec S_ 1 := (fun x v => Host.reduce IntOp.andi x v reducesTo_S1024_S_d0 h_S_) main_v4 main_c_1
  main_v5
-- ==== Kernel.lean ====
abbrev S4096x512 : Shape := ⟨2, ![4096, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩
abbrev S31x32x512 : Shape := ⟨3, ![31, 32, 512]⟩
abbrev S1x32x512 : Shape := ⟨3, ![1, 32, 512]⟩
abbrev S32x512 : Shape := ⟨2, ![32, 512]⟩

abbrev nBuf : Space → Nat
  | .hbm => 43
  | .vmem => 4
  | .smem => 0
  | _ => 0

abbrev bufTy : (tb : Table) → Fin (tcTables nBuf tb) → BufTy
  | .hbm, ⟨0, _⟩ => ⟨S4096x512, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S_, .i32⟩
  | .hbm, ⟨13, _⟩ => ⟨S1024, .i32⟩
  | .hbm, ⟨14, _⟩ => ⟨S1024, .i1⟩
  | .hbm, ⟨15, _⟩ => ⟨S_, .i32⟩
  | .hbm, ⟨16, _⟩ => ⟨S1024, .i32⟩
  | .hbm, ⟨17, _⟩ => ⟨S1024, .i1⟩
  | .hbm, ⟨18, _⟩ => ⟨S1024, .i1⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024x1, .i1⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i32⟩
  | .hbm, ⟨34, _⟩ => ⟨S1024, .i32⟩
  | .hbm, ⟨35, _⟩ => ⟨S1024x1, .i32⟩
  | .hbm, ⟨36, _⟩ => ⟨S1024x512, .f32⟩
  | .hbm, ⟨37, _⟩ => ⟨S_, .f32⟩
  | .hbm, ⟨38, _⟩ => ⟨S1024x512, .i1⟩
  | .hbm, ⟨39, _⟩ => ⟨S1024x512, .f32⟩
  | .hbm, ⟨40, _⟩ => ⟨S1024x512, .f32⟩
  | .hbm, ⟨41, _⟩ => ⟨S1024x512, .bf16⟩
  | .hbm, ⟨42, _⟩ => ⟨S1024x512, .f32⟩
  | .local _ .vmem, ⟨0, _⟩ => ⟨S1024x512, .bf16⟩
  | .local _ .vmem, ⟨1, _⟩ => ⟨S1024x512, .f32⟩
  | .local _ .vmem, ⟨2, _⟩ => ⟨S31x32x512, .bf16⟩
  | .local _ .vmem, ⟨3, _⟩ => ⟨S1024x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c_2 : Ref sig .tc := ⟨.hbm, 12, rfl⟩
abbrev main_v8 : Ref sig .tc := ⟨.hbm, 13, rfl⟩
abbrev main_v9 : Ref sig .tc := ⟨.hbm, 14, rfl⟩
abbrev main_c_3 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_4 : Ref sig .tc := ⟨.hbm, 19, rfl⟩
abbrev main_c_5 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v13 : Ref sig .tc := ⟨.hbm, 26, rfl⟩
abbrev main_v14 : Ref sig .tc := ⟨.hbm, 27, rfl⟩
abbrev main_c_6 : Ref sig .tc := ⟨.hbm, 28, rfl⟩
abbrev main_v15 : Ref sig .tc := ⟨.hbm, 29, rfl⟩
abbrev main_v16 : Ref sig .tc := ⟨.hbm, 30, rfl⟩
abbrev main_c_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let c0_i32 : BitVec 32 := 0#32
  let v5 : BitVec 1 := Scalar.cmpi .eq c32_i32_1 c0_i32
  let c1_i32_2 : BitVec 32 := 1#32
  let v6 : BitVec 32 := Scalar.select v5 c1_i32_2 c32_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v17 : BitVec 32 := Scalar.addi v2 c2_i32
  let c32_i32_9 : BitVec 32 := 32#32
  let c0_i32_10 : BitVec 32 := 0#32
  let v18 : BitVec 1 := Scalar.cmpi .eq c32_i32_9 c0_i32_10
  let c1_i32_11 : BitVec 32 := 1#32
  let v19 : BitVec 32 := Scalar.select v18 c1_i32_11 c32_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v30 : BitVec 32 := Scalar.addi v2 c3_i32
  let c32_i32_18 : BitVec 32 := 32#32
  let c0_i32_19 : BitVec 32 := 0#32
  let v31 : BitVec 1 := Scalar.cmpi .eq c32_i32_18 c0_i32_19
  let c1_i32_20 : BitVec 32 := 1#32
  let v32 : BitVec 32 := Scalar.select v31 c1_i32_20 c32_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_27 : BitVec 32 := 32#32
  let c0_i32_28 : BitVec 32 := 0#32
  let v44 : BitVec 1 := Scalar.cmpi .eq c32_i32_27 c0_i32_28
  let c1_i32_29 : BitVec 32 := 1#32
  let v45 : BitVec 32 := Scalar.select v44 c1_i32_29 c32_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v56 : BitVec 32 := Scalar.addi v2 c5_i32
  let c32_i32_36 : BitVec 32 := 32#32
  let c0_i32_37 : BitVec 32 := 0#32
  let v57 : BitVec 1 := Scalar.cmpi .eq c32_i32_36 c0_i32_37
  let c1_i32_38 : BitVec 32 := 1#32
  let v58 : BitVec 32 := Scalar.select v57 c1_i32_38 c32_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v69 : BitVec 32 := Scalar.addi v2 c6_i32
  let c32_i32_45 : BitVec 32 := 32#32
  let c0_i32_46 : BitVec 32 := 0#32
  let v70 : BitVec 1 := Scalar.cmpi .eq c32_i32_45 c0_i32_46
  let c1_i32_47 : BitVec 32 := 1#32
  let v71 : BitVec 32 := Scalar.select v70 c1_i32_47 c32_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v82 : BitVec 32 := Scalar.addi v2 c7_i32
  let c32_i32_54 : BitVec 32 := 32#32
  let c0_i32_55 : BitVec 32 := 0#32
  let v83 : BitVec 1 := Scalar.cmpi .eq c32_i32_54 c0_i32_55
  let c1_i32_56 : BitVec 32 := 1#32
  let v84 : BitVec 32 := Scalar.select v83 c1_i32_56 c32_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v95 : BitVec 32 := Scalar.addi v2 c8_i32
  let c32_i32_63 : BitVec 32 := 32#32
  let c0_i32_64 : BitVec 32 := 0#32
  let v96 : BitVec 1 := Scalar.cmpi .eq c32_i32_63 c0_i32_64
  let c1_i32_65 : BitVec 32 := 1#32
  let v97 : BitVec 32 := Scalar.select v96 c1_i32_65 c32_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v108 : BitVec 32 := Scalar.addi v2 c9_i32
  let c32_i32_72 : BitVec 32 := 32#32
  let c0_i32_73 : BitVec 32 := 0#32
  let v109 : BitVec 1 := Scalar.cmpi .eq c32_i32_72 c0_i32_73
  let c1_i32_74 : BitVec 32 := 1#32
  let v110 : BitVec 32 := Scalar.select v109 c1_i32_74 c32_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v121 : BitVec 32 := Scalar.addi v2 c10_i32
  let c32_i32_81 : BitVec 32 := 32#32
  let c0_i32_82 : BitVec 32 := 0#32
  let v122 : BitVec 1 := Scalar.cmpi .eq c32_i32_81 c0_i32_82
  let c1_i32_83 : BitVec 32 := 1#32
  let v123 : BitVec 32 := Scalar.select v122 c1_i32_83 c32_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v134 : BitVec 32 := Scalar.addi v2 c11_i32
  let c32_i32_90 : BitVec 32 := 32#32
  let c0_i32_91 : BitVec 32 := 0#32
  let v135 : BitVec 1 := Scalar.cmpi .eq c32_i32_90 c0_i32_91
  let c1_i32_92 : BitVec 32 := 1#32
  let v136 : BitVec 32 := Scalar.select v135 c1_i32_92 c32_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v147 : BitVec 32 := Scalar.addi v2 c12_i32
  let c32_i32_99 : BitVec 32 := 32#32
  let c0_i32_100 : BitVec 32 := 0#32
  let v148 : BitVec 1 := Scalar.cmpi .eq c32_i32_99 c0_i32_100
  let c1_i32_101 : BitVec 32 := 1#32
  let v149 : BitVec 32 := Scalar.select v148 c1_i32_101 c32_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v160 : BitVec 32 := Scalar.addi v2 c13_i32
  let c32_i32_108 : BitVec 32 := 32#32
  let c0_i32_109 : BitVec 32 := 0#32
  let v161 : BitVec 1 := Scalar.cmpi .eq c32_i32_108 c0_i32_109
  let c1_i32_110 : BitVec 32 := 1#32
  let v162 : BitVec 32 := Scalar.select v161 c1_i32_110 c32_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v173 : BitVec 32 := Scalar.addi v2 c14_i32
  let c32_i32_117 : BitVec 32 := 32#32
  let c0_i32_118 : BitVec 32 := 0#32
  let v174 : BitVec 1 := Scalar.cmpi .eq c32_i32_117 c0_i32_118
  let c1_i32_119 : BitVec 32 := 1#32
  let v175 : BitVec 32 := Scalar.select v174 c1_i32_119 c32_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v186 : BitVec 32 := Scalar.addi v2 c15_i32
  let c32_i32_126 : BitVec 32 := 32#32
  let c0_i32_127 : BitVec 32 := 0#32
  let v187 : BitVec 1 := Scalar.cmpi .eq c32_i32_126 c0_i32_127
  let c1_i32_128 : BitVec 32 := 1#32
  let v188 : BitVec 32 := Scalar.select v187 c1_i32_128 c32_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_143 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v199 : BitVec 32 := Scalar.addi v2 c16_i32
  let c32_i32_135 : BitVec 32 := 32#32
  let c0_i32_136 : BitVec 32 := 0#32
  let v200 : BitVec 1 := Scalar.cmpi .eq c32_i32_135 c0_i32_136
  let c1_i32_137 : BitVec 32 := 1#32
  let v201 : BitVec 32 := Scalar.select v200 c1_i32_137 c32_i32_135
  let v202 : BitVec 32 := Scalar.remsi v199 v201
  let c0_i32_139 : BitVec 32 := 0#32
  let v204 : BitVec 1 := Scalar.cmpi .slt v202 c0_i32_139
  let c0_i32_140 : BitVec 32 := 0#32
  let v205 : BitVec 1 := Scalar.cmpi .slt v201 c0_i32_140
  let v206 : BitVec 1 := Scalar.xori v204 v205
  let c0_i32_138 : BitVec 32 := 0#32
  let v203 : BitVec 1 := Scalar.cmpi .ne v202 c0_i32_138
  let v207 : BitVec 1 := Scalar.andi v206 v203
  let v208 : BitVec 32 := Scalar.addi v202 v201
  let v209 : BitVec 32 := Scalar.select v207 v208 v202
  let c1_i32_142 : BitVec 32 := 1#32
  let v210 : BitVec 32 := Scalar.muli v209 c1_i32_142
  let v211 : BitVec 32 := Scalar.addi c0_i32_143 v210
  v211.toNat
def k0_dev17 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v212 : BitVec 32 := Scalar.addi v2 c17_i32
  let c32_i32_144 : BitVec 32 := 32#32
  let c0_i32_145 : BitVec 32 := 0#32
  let v213 : BitVec 1 := Scalar.cmpi .eq c32_i32_144 c0_i32_145
  let c1_i32_146 : BitVec 32 := 1#32
  let v214 : BitVec 32 := Scalar.select v213 c1_i32_146 c32_i32_144
  let v215 : BitVec 32 := Scalar.remsi v212 v214
  let c0_i32_148 : BitVec 32 := 0#32
  let v217 : BitVec 1 := Scalar.cmpi .slt v215 c0_i32_148
  let c0_i32_149 : BitVec 32 := 0#32
  let v218 : BitVec 1 := Scalar.cmpi .slt v214 c0_i32_149
  let v219 : BitVec 1 := Scalar.xori v217 v218
  let c0_i32_147 : BitVec 32 := 0#32
  let v216 : BitVec 1 := Scalar.cmpi .ne v215 c0_i32_147
  let v220 : BitVec 1 := Scalar.andi v219 v216
  let v221 : BitVec 32 := Scalar.addi v215 v214
  let v222 : BitVec 32 := Scalar.select v220 v221 v215
  let c1_i32_151 : BitVec 32 := 1#32
  let v223 : BitVec 32 := Scalar.muli v222 c1_i32_151
  let v224 : BitVec 32 := Scalar.addi c0_i32_152 v223
  v224.toNat
def k0_dev18 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v225 : BitVec 32 := Scalar.addi v2 c18_i32
  let c32_i32_153 : BitVec 32 := 32#32
  let c0_i32_154 : BitVec 32 := 0#32
  let v226 : BitVec 1 := Scalar.cmpi .eq c32_i32_153 c0_i32_154
  let c1_i32_155 : BitVec 32 := 1#32
  let v227 : BitVec 32 := Scalar.select v226 c1_i32_155 c32_i32_153
  let v228 : BitVec 32 := Scalar.remsi v225 v227
  let c0_i32_157 : BitVec 32 := 0#32
  let v230 : BitVec 1 := Scalar.cmpi .slt v228 c0_i32_157
  let c0_i32_158 : BitVec 32 := 0#32
  let v231 : BitVec 1 := Scalar.cmpi .slt v227 c0_i32_158
  let v232 : BitVec 1 := Scalar.xori v230 v231
  let c0_i32_156 : BitVec 32 := 0#32
  let v229 : BitVec 1 := Scalar.cmpi .ne v228 c0_i32_156
  let v233 : BitVec 1 := Scalar.andi v232 v229
  let v234 : BitVec 32 := Scalar.addi v228 v227
  let v235 : BitVec 32 := Scalar.select v233 v234 v228
  let c1_i32_160 : BitVec 32 := 1#32
  let v236 : BitVec 32 := Scalar.muli v235 c1_i32_160
  let v237 : BitVec 32 := Scalar.addi c0_i32_161 v236
  v237.toNat
def k0_dev19 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v238 : BitVec 32 := Scalar.addi v2 c19_i32
  let c32_i32_162 : BitVec 32 := 32#32
  let c0_i32_163 : BitVec 32 := 0#32
  let v239 : BitVec 1 := Scalar.cmpi .eq c32_i32_162 c0_i32_163
  let c1_i32_164 : BitVec 32 := 1#32
  let v240 : BitVec 32 := Scalar.select v239 c1_i32_164 c32_i32_162
  let v241 : BitVec 32 := Scalar.remsi v238 v240
  let c0_i32_166 : BitVec 32 := 0#32
  let v243 : BitVec 1 := Scalar.cmpi .slt v241 c0_i32_166
  let c0_i32_167 : BitVec 32 := 0#32
  let v244 : BitVec 1 := Scalar.cmpi .slt v240 c0_i32_167
  let v245 : BitVec 1 := Scalar.xori v243 v244
  let c0_i32_165 : BitVec 32 := 0#32
  let v242 : BitVec 1 := Scalar.cmpi .ne v241 c0_i32_165
  let v246 : BitVec 1 := Scalar.andi v245 v242
  let v247 : BitVec 32 := Scalar.addi v241 v240
  let v248 : BitVec 32 := Scalar.select v246 v247 v241
  let c1_i32_169 : BitVec 32 := 1#32
  let v249 : BitVec 32 := Scalar.muli v248 c1_i32_169
  let v250 : BitVec 32 := Scalar.addi c0_i32_170 v249
  v250.toNat
def k0_dev20 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v251 : BitVec 32 := Scalar.addi v2 c20_i32
  let c32_i32_171 : BitVec 32 := 32#32
  let c0_i32_172 : BitVec 32 := 0#32
  let v252 : BitVec 1 := Scalar.cmpi .eq c32_i32_171 c0_i32_172
  let c1_i32_173 : BitVec 32 := 1#32
  let v253 : BitVec 32 := Scalar.select v252 c1_i32_173 c32_i32_171
  let v254 : BitVec 32 := Scalar.remsi v251 v253
  let c0_i32_175 : BitVec 32 := 0#32
  let v256 : BitVec 1 := Scalar.cmpi .slt v254 c0_i32_175
  let c0_i32_176 : BitVec 32 := 0#32
  let v257 : BitVec 1 := Scalar.cmpi .slt v253 c0_i32_176
  let v258 : BitVec 1 := Scalar.xori v256 v257
  let c0_i32_174 : BitVec 32 := 0#32
  let v255 : BitVec 1 := Scalar.cmpi .ne v254 c0_i32_174
  let v259 : BitVec 1 := Scalar.andi v258 v255
  let v260 : BitVec 32 := Scalar.addi v254 v253
  let v261 : BitVec 32 := Scalar.select v259 v260 v254
  let c1_i32_178 : BitVec 32 := 1#32
  let v262 : BitVec 32 := Scalar.muli v261 c1_i32_178
  let v263 : BitVec 32 := Scalar.addi c0_i32_179 v262
  v263.toNat
def k0_dev21 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v264 : BitVec 32 := Scalar.addi v2 c21_i32
  let c32_i32_180 : BitVec 32 := 32#32
  let c0_i32_181 : BitVec 32 := 0#32
  let v265 : BitVec 1 := Scalar.cmpi .eq c32_i32_180 c0_i32_181
  let c1_i32_182 : BitVec 32 := 1#32
  let v266 : BitVec 32 := Scalar.select v265 c1_i32_182 c32_i32_180
  let v267 : BitVec 32 := Scalar.remsi v264 v266
  let c0_i32_184 : BitVec 32 := 0#32
  let v269 : BitVec 1 := Scalar.cmpi .slt v267 c0_i32_184
  let c0_i32_185 : BitVec 32 := 0#32
  let v270 : BitVec 1 := Scalar.cmpi .slt v266 c0_i32_185
  let v271 : BitVec 1 := Scalar.xori v269 v270
  let c0_i32_183 : BitVec 32 := 0#32
  let v268 : BitVec 1 := Scalar.cmpi .ne v267 c0_i32_183
  let v272 : BitVec 1 := Scalar.andi v271 v268
  let v273 : BitVec 32 := Scalar.addi v267 v266
  let v274 : BitVec 32 := Scalar.select v272 v273 v267
  let c1_i32_187 : BitVec 32 := 1#32
  let v275 : BitVec 32 := Scalar.muli v274 c1_i32_187
  let v276 : BitVec 32 := Scalar.addi c0_i32_188 v275
  v276.toNat
def k0_dev22 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v277 : BitVec 32 := Scalar.addi v2 c22_i32
  let c32_i32_189 : BitVec 32 := 32#32
  let c0_i32_190 : BitVec 32 := 0#32
  let v278 : BitVec 1 := Scalar.cmpi .eq c32_i32_189 c0_i32_190
  let c1_i32_191 : BitVec 32 := 1#32
  let v279 : BitVec 32 := Scalar.select v278 c1_i32_191 c32_i32_189
  let v280 : BitVec 32 := Scalar.remsi v277 v279
  let c0_i32_193 : BitVec 32 := 0#32
  let v282 : BitVec 1 := Scalar.cmpi .slt v280 c0_i32_193
  let c0_i32_194 : BitVec 32 := 0#32
  let v283 : BitVec 1 := Scalar.cmpi .slt v279 c0_i32_194
  let v284 : BitVec 1 := Scalar.xori v282 v283
  let c0_i32_192 : BitVec 32 := 0#32
  let v281 : BitVec 1 := Scalar.cmpi .ne v280 c0_i32_192
  let v285 : BitVec 1 := Scalar.andi v284 v281
  let v286 : BitVec 32 := Scalar.addi v280 v279
  let v287 : BitVec 32 := Scalar.select v285 v286 v280
  let c1_i32_196 : BitVec 32 := 1#32
  let v288 : BitVec 32 := Scalar.muli v287 c1_i32_196
  let v289 : BitVec 32 := Scalar.addi c0_i32_197 v288
  v289.toNat
def k0_dev23 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v290 : BitVec 32 := Scalar.addi v2 c23_i32
  let c32_i32_198 : BitVec 32 := 32#32
  let c0_i32_199 : BitVec 32 := 0#32
  let v291 : BitVec 1 := Scalar.cmpi .eq c32_i32_198 c0_i32_199
  let c1_i32_200 : BitVec 32 := 1#32
  let v292 : BitVec 32 := Scalar.select v291 c1_i32_200 c32_i32_198
  let v293 : BitVec 32 := Scalar.remsi v290 v292
  let c0_i32_202 : BitVec 32 := 0#32
  let v295 : BitVec 1 := Scalar.cmpi .slt v293 c0_i32_202
  let c0_i32_203 : BitVec 32 := 0#32
  let v296 : BitVec 1 := Scalar.cmpi .slt v292 c0_i32_203
  let v297 : BitVec 1 := Scalar.xori v295 v296
  let c0_i32_201 : BitVec 32 := 0#32
  let v294 : BitVec 1 := Scalar.cmpi .ne v293 c0_i32_201
  let v298 : BitVec 1 := Scalar.andi v297 v294
  let v299 : BitVec 32 := Scalar.addi v293 v292
  let v300 : BitVec 32 := Scalar.select v298 v299 v293
  let c1_i32_205 : BitVec 32 := 1#32
  let v301 : BitVec 32 := Scalar.muli v300 c1_i32_205
  let v302 : BitVec 32 := Scalar.addi c0_i32_206 v301
  v302.toNat
def k0_dev24 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v303 : BitVec 32 := Scalar.addi v2 c24_i32
  let c32_i32_207 : BitVec 32 := 32#32
  let c0_i32_208 : BitVec 32 := 0#32
  let v304 : BitVec 1 := Scalar.cmpi .eq c32_i32_207 c0_i32_208
  let c1_i32_209 : BitVec 32 := 1#32
  let v305 : BitVec 32 := Scalar.select v304 c1_i32_209 c32_i32_207
  let v306 : BitVec 32 := Scalar.remsi v303 v305
  let c0_i32_211 : BitVec 32 := 0#32
  let v308 : BitVec 1 := Scalar.cmpi .slt v306 c0_i32_211
  let c0_i32_212 : BitVec 32 := 0#32
  let v309 : BitVec 1 := Scalar.cmpi .slt v305 c0_i32_212
  let v310 : BitVec 1 := Scalar.xori v308 v309
  let c0_i32_210 : BitVec 32 := 0#32
  let v307 : BitVec 1 := Scalar.cmpi .ne v306 c0_i32_210
  let v311 : BitVec 1 := Scalar.andi v310 v307
  let v312 : BitVec 32 := Scalar.addi v306 v305
  let v313 : BitVec 32 := Scalar.select v311 v312 v306
  let c1_i32_214 : BitVec 32 := 1#32
  let v314 : BitVec 32 := Scalar.muli v313 c1_i32_214
  let v315 : BitVec 32 := Scalar.addi c0_i32_215 v314
  v315.toNat
def k0_dev25 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v316 : BitVec 32 := Scalar.addi v2 c25_i32
  let c32_i32_216 : BitVec 32 := 32#32
  let c0_i32_217 : BitVec 32 := 0#32
  let v317 : BitVec 1 := Scalar.cmpi .eq c32_i32_216 c0_i32_217
  let c1_i32_218 : BitVec 32 := 1#32
  let v318 : BitVec 32 := Scalar.select v317 c1_i32_218 c32_i32_216
  let v319 : BitVec 32 := Scalar.remsi v316 v318
  let c0_i32_220 : BitVec 32 := 0#32
  let v321 : BitVec 1 := Scalar.cmpi .slt v319 c0_i32_220
  let c0_i32_221 : BitVec 32 := 0#32
  let v322 : BitVec 1 := Scalar.cmpi .slt v318 c0_i32_221
  let v323 : BitVec 1 := Scalar.xori v321 v322
  let c0_i32_219 : BitVec 32 := 0#32
  let v320 : BitVec 1 := Scalar.cmpi .ne v319 c0_i32_219
  let v324 : BitVec 1 := Scalar.andi v323 v320
  let v325 : BitVec 32 := Scalar.addi v319 v318
  let v326 : BitVec 32 := Scalar.select v324 v325 v319
  let c1_i32_223 : BitVec 32 := 1#32
  let v327 : BitVec 32 := Scalar.muli v326 c1_i32_223
  let v328 : BitVec 32 := Scalar.addi c0_i32_224 v327
  v328.toNat
def k0_dev26 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v329 : BitVec 32 := Scalar.addi v2 c26_i32
  let c32_i32_225 : BitVec 32 := 32#32
  let c0_i32_226 : BitVec 32 := 0#32
  let v330 : BitVec 1 := Scalar.cmpi .eq c32_i32_225 c0_i32_226
  let c1_i32_227 : BitVec 32 := 1#32
  let v331 : BitVec 32 := Scalar.select v330 c1_i32_227 c32_i32_225
  let v332 : BitVec 32 := Scalar.remsi v329 v331
  let c0_i32_229 : BitVec 32 := 0#32
  let v334 : BitVec 1 := Scalar.cmpi .slt v332 c0_i32_229
  let c0_i32_230 : BitVec 32 := 0#32
  let v335 : BitVec 1 := Scalar.cmpi .slt v331 c0_i32_230
  let v336 : BitVec 1 := Scalar.xori v334 v335
  let c0_i32_228 : BitVec 32 := 0#32
  let v333 : BitVec 1 := Scalar.cmpi .ne v332 c0_i32_228
  let v337 : BitVec 1 := Scalar.andi v336 v333
  let v338 : BitVec 32 := Scalar.addi v332 v331
  let v339 : BitVec 32 := Scalar.select v337 v338 v332
  let c1_i32_232 : BitVec 32 := 1#32
  let v340 : BitVec 32 := Scalar.muli v339 c1_i32_232
  let v341 : BitVec 32 := Scalar.addi c0_i32_233 v340
  v341.toNat
def k0_dev27 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v342 : BitVec 32 := Scalar.addi v2 c27_i32
  let c32_i32_234 : BitVec 32 := 32#32
  let c0_i32_235 : BitVec 32 := 0#32
  let v343 : BitVec 1 := Scalar.cmpi .eq c32_i32_234 c0_i32_235
  let c1_i32_236 : BitVec 32 := 1#32
  let v344 : BitVec 32 := Scalar.select v343 c1_i32_236 c32_i32_234
  let v345 : BitVec 32 := Scalar.remsi v342 v344
  let c0_i32_238 : BitVec 32 := 0#32
  let v347 : BitVec 1 := Scalar.cmpi .slt v345 c0_i32_238
  let c0_i32_239 : BitVec 32 := 0#32
  let v348 : BitVec 1 := Scalar.cmpi .slt v344 c0_i32_239
  let v349 : BitVec 1 := Scalar.xori v347 v348
  let c0_i32_237 : BitVec 32 := 0#32
  let v346 : BitVec 1 := Scalar.cmpi .ne v345 c0_i32_237
  let v350 : BitVec 1 := Scalar.andi v349 v346
  let v351 : BitVec 32 := Scalar.addi v345 v344
  let v352 : BitVec 32 := Scalar.select v350 v351 v345
  let c1_i32_241 : BitVec 32 := 1#32
  let v353 : BitVec 32 := Scalar.muli v352 c1_i32_241
  let v354 : BitVec 32 := Scalar.addi c0_i32_242 v353
  v354.toNat
def k0_dev28 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v355 : BitVec 32 := Scalar.addi v2 c28_i32
  let c32_i32_243 : BitVec 32 := 32#32
  let c0_i32_244 : BitVec 32 := 0#32
  let v356 : BitVec 1 := Scalar.cmpi .eq c32_i32_243 c0_i32_244
  let c1_i32_245 : BitVec 32 := 1#32
  let v357 : BitVec 32 := Scalar.select v356 c1_i32_245 c32_i32_243
  let v358 : BitVec 32 := Scalar.remsi v355 v357
  let c0_i32_247 : BitVec 32 := 0#32
  let v360 : BitVec 1 := Scalar.cmpi .slt v358 c0_i32_247
  let c0_i32_248 : BitVec 32 := 0#32
  let v361 : BitVec 1 := Scalar.cmpi .slt v357 c0_i32_248
  let v362 : BitVec 1 := Scalar.xori v360 v361
  let c0_i32_246 : BitVec 32 := 0#32
  let v359 : BitVec 1 := Scalar.cmpi .ne v358 c0_i32_246
  let v363 : BitVec 1 := Scalar.andi v362 v359
  let v364 : BitVec 32 := Scalar.addi v358 v357
  let v365 : BitVec 32 := Scalar.select v363 v364 v358
  let c1_i32_250 : BitVec 32 := 1#32
  let v366 : BitVec 32 := Scalar.muli v365 c1_i32_250
  let v367 : BitVec 32 := Scalar.addi c0_i32_251 v366
  v367.toNat
def k0_dev29 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v368 : BitVec 32 := Scalar.addi v2 c29_i32
  let c32_i32_252 : BitVec 32 := 32#32
  let c0_i32_253 : BitVec 32 := 0#32
  let v369 : BitVec 1 := Scalar.cmpi .eq c32_i32_252 c0_i32_253
  let c1_i32_254 : BitVec 32 := 1#32
  let v370 : BitVec 32 := Scalar.select v369 c1_i32_254 c32_i32_252
  let v371 : BitVec 32 := Scalar.remsi v368 v370
  let c0_i32_256 : BitVec 32 := 0#32
  let v373 : BitVec 1 := Scalar.cmpi .slt v371 c0_i32_256
  let c0_i32_257 : BitVec 32 := 0#32
  let v374 : BitVec 1 := Scalar.cmpi .slt v370 c0_i32_257
  let v375 : BitVec 1 := Scalar.xori v373 v374
  let c0_i32_255 : BitVec 32 := 0#32
  let v372 : BitVec 1 := Scalar.cmpi .ne v371 c0_i32_255
  let v376 : BitVec 1 := Scalar.andi v375 v372
  let v377 : BitVec 32 := Scalar.addi v371 v370
  let v378 : BitVec 32 := Scalar.select v376 v377 v371
  let c1_i32_259 : BitVec 32 := 1#32
  let v379 : BitVec 32 := Scalar.muli v378 c1_i32_259
  let v380 : BitVec 32 := Scalar.addi c0_i32_260 v379
  v380.toNat
def k0_dev30 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v381 : BitVec 32 := Scalar.addi v2 c30_i32
  let c32_i32_261 : BitVec 32 := 32#32
  let c0_i32_262 : BitVec 32 := 0#32
  let v382 : BitVec 1 := Scalar.cmpi .eq c32_i32_261 c0_i32_262
  let c1_i32_263 : BitVec 32 := 1#32
  let v383 : BitVec 32 := Scalar.select v382 c1_i32_263 c32_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_268 : BitVec 32 := 1#32
  let v392 : BitVec 32 := Scalar.muli v391 c1_i32_268
  let v393 : BitVec 32 := Scalar.addi c0_i32_269 v392
  v393.toNat
def k0_dev31 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v394 : BitVec 32 := Scalar.addi v2 c31_i32
  let c32_i32_270 : BitVec 32 := 32#32
  let c0_i32_271 : BitVec 32 := 0#32
  let v395 : BitVec 1 := Scalar.cmpi .eq c32_i32_270 c0_i32_271
  let c1_i32_272 : BitVec 32 := 1#32
  let v396 : BitVec 32 := Scalar.select v395 c1_i32_272 c32_i32_270
  let v397 : BitVec 32 := Scalar.remsi v394 v396
  let c0_i32_274 : BitVec 32 := 0#32
  let v399 : BitVec 1 := Scalar.cmpi .slt v397 c0_i32_274
  let c0_i32_275 : BitVec 32 := 0#32
  let v400 : BitVec 1 := Scalar.cmpi .slt v396 c0_i32_275
  let v401 : BitVec 1 := Scalar.xori v399 v400
  let c0_i32_273 : BitVec 32 := 0#32
  let v398 : BitVec 1 := Scalar.cmpi .ne v397 c0_i32_273
  let v402 : BitVec 1 := Scalar.andi v401 v398
  let v403 : BitVec 32 := Scalar.addi v397 v396
  let v404 : BitVec 32 := Scalar.select v402 v403 v397
  let c1_i32_277 : BitVec 32 := 1#32
  let v405 : BitVec 32 := Scalar.muli v404 c1_i32_277
  let v406 : BitVec 32 := Scalar.addi c0_i32_278 v405
  v406.toNat
def k0_off1 (d0 : Dev nD) (c1_i32_280 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c32_i32_287 : BitVec 32 := 32#32
  let v418 : BitVec 32 := Scalar.muli v417 c32_i32_287
  let c0_i32_293 : BitVec 32 := 0#32
  ![v418.toNat, 0]
def k0_dev32 (d0 : Dev nD) : Nat :=
  let c0_i32_290 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_280 : BitVec 32 := 1#32
  let v407 : BitVec 32 := Scalar.addi v2 c1_i32_280
  let c32_i32_281 : BitVec 32 := 32#32
  let c0_i32_282 : BitVec 32 := 0#32
  let v408 : BitVec 1 := Scalar.cmpi .eq c32_i32_281 c0_i32_282
  let c1_i32_283 : BitVec 32 := 1#32
  let v409 : BitVec 32 := Scalar.select v408 c1_i32_283 c32_i32_281
  let v410 : BitVec 32 := Scalar.remsi v407 v409
  let c0_i32_285 : BitVec 32 := 0#32
  let v412 : BitVec 1 := Scalar.cmpi .slt v410 c0_i32_285
  let c0_i32_286 : BitVec 32 := 0#32
  let v413 : BitVec 1 := Scalar.cmpi .slt v409 c0_i32_286
  let v414 : BitVec 1 := Scalar.xori v412 v413
  let c0_i32_284 : BitVec 32 := 0#32
  let v411 : BitVec 1 := Scalar.cmpi .ne v410 c0_i32_284
  let v415 : BitVec 1 := Scalar.andi v414 v411
  let v416 : BitVec 32 := Scalar.addi v410 v409
  let v417 : BitVec 32 := Scalar.select v415 v416 v410
  let c1_i32_289 : BitVec 32 := 1#32
  let v419 : BitVec 32 := Scalar.muli v417 c1_i32_289
  let v420 : BitVec 32 := Scalar.addi c0_i32_290 v419
  v420.toNat
def k0_dev33 (d0 : Dev nD) : Nat :=
  let c0_i32_304 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_294 : BitVec 32 := 2#32
  let v424 : BitVec 32 := Scalar.addi v2 c2_i32_294
  let c32_i32_295 : BitVec 32 := 32#32
  let c0_i32_296 : BitVec 32 := 0#32
  let v425 : BitVec 1 := Scalar.cmpi .eq c32_i32_295 c0_i32_296
  let c1_i32_297 : BitVec 32 := 1#32
  let v426 : BitVec 32 := Scalar.select v425 c1_i32_297 c32_i32_295
  let v427 : BitVec 32 := Scalar.remsi v424 v426
  let c0_i32_299 : BitVec 32 := 0#32
  let v429 : BitVec 1 := Scalar.cmpi .slt v427 c0_i32_299
  let c0_i32_300 : BitVec 32 := 0#32
  let v430 : BitVec 1 := Scalar.cmpi .slt v426 c0_i32_300
  let v431 : BitVec 1 := Scalar.xori v429 v430
  let c0_i32_298 : BitVec 32 := 0#32
  let v428 : BitVec 1 := Scalar.cmpi .ne v427 c0_i32_298
  let v432 : BitVec 1 := Scalar.andi v431 v428
  let v433 : BitVec 32 := Scalar.addi v427 v426
  let v434 : BitVec 32 := Scalar.select v432 v433 v427
  let c1_i32_303 : BitVec 32 := 1#32
  let v436 : BitVec 32 := Scalar.muli v434 c1_i32_303
  let v437 : BitVec 32 := Scalar.addi c0_i32_304 v436
  v437.toNat
def k0_dev34 (d0 : Dev nD) : Nat :=
  let c0_i32_318 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_308 : BitVec 32 := 3#32
  let v441 : BitVec 32 := Scalar.addi v2 c3_i32_308
  let c32_i32_309 : BitVec 32 := 32#32
  let c0_i32_310 : BitVec 32 := 0#32
  let v442 : BitVec 1 := Scalar.cmpi .eq c32_i32_309 c0_i32_310
  let c1_i32_311 : BitVec 32 := 1#32
  let v443 : BitVec 32 := Scalar.select v442 c1_i32_311 c32_i32_309
  let v444 : BitVec 32 := Scalar.remsi v441 v443
  let c0_i32_313 : BitVec 32 := 0#32
  let v446 : BitVec 1 := Scalar.cmpi .slt v444 c0_i32_313
  let c0_i32_314 : BitVec 32 := 0#32
  let v447 : BitVec 1 := Scalar.cmpi .slt v443 c0_i32_314
  let v448 : BitVec 1 := Scalar.xori v446 v447
  let c0_i32_312 : BitVec 32 := 0#32
  let v445 : BitVec 1 := Scalar.cmpi .ne v444 c0_i32_312
  let v449 : BitVec 1 := Scalar.andi v448 v445
  let v450 : BitVec 32 := Scalar.addi v444 v443
  let v451 : BitVec 32 := Scalar.select v449 v450 v444
  let c1_i32_317 : BitVec 32 := 1#32
  let v453 : BitVec 32 := Scalar.muli v451 c1_i32_317
  let v454 : BitVec 32 := Scalar.addi c0_i32_318 v453
  v454.toNat
def k0_dev35 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_322 : BitVec 32 := 4#32
  let v458 : BitVec 32 := Scalar.addi v2 c4_i32_322
  let c32_i32_323 : BitVec 32 := 32#32
  let c0_i32_324 : BitVec 32 := 0#32
  let v459 : BitVec 1 := Scalar.cmpi .eq c32_i32_323 c0_i32_324
  let c1_i32_325 : BitVec 32 := 1#32
  let v460 : BitVec 32 := Scalar.select v459 c1_i32_325 c32_i32_323
  let v461 : BitVec 32 := Scalar.remsi v458 v460
  let c0_i32_327 : BitVec 32 := 0#32
  let v463 : BitVec 1 := Scalar.cmpi .slt v461 c0_i32_327
  let c0_i32_328 : BitVec 32 := 0#32
  let v464 : BitVec 1 := Scalar.cmpi .slt v460 c0_i32_328
  let v465 : BitVec 1 := Scalar.xori v463 v464
  let c0_i32_326 : BitVec 32 := 0#32
  let v462 : BitVec 1 := Scalar.cmpi .ne v461 c0_i32_326
  let v466 : BitVec 1 := Scalar.andi v465 v462
  let v467 : BitVec 32 := Scalar.addi v461 v460
  let v468 : BitVec 32 := Scalar.select v466 v467 v461
  let c1_i32_331 : BitVec 32 := 1#32
  let v470 : BitVec 32 := Scalar.muli v468 c1_i32_331
  let v471 : BitVec 32 := Scalar.addi c0_i32_332 v470
  v471.toNat
def k0_dev36 (d0 : Dev nD) : Nat :=
  let c0_i32_346 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_336 : BitVec 32 := 5#32
  let v475 : BitVec 32 := Scalar.addi v2 c5_i32_336
  let c32_i32_337 : BitVec 32 := 32#32
  let c0_i32_338 : BitVec 32 := 0#32
  let v476 : BitVec 1 := Scalar.cmpi .eq c32_i32_337 c0_i32_338
  let c1_i32_339 : BitVec 32 := 1#32
  let v477 : BitVec 32 := Scalar.select v476 c1_i32_339 c32_i32_337
  let v478 : BitVec 32 := Scalar.remsi v475 v477
  let c0_i32_341 : BitVec 32 := 0#32
  let v480 : BitVec 1 := Scalar.cmpi .slt v478 c0_i32_341
  let c0_i32_342 : BitVec 32 := 0#32
  let v481 : BitVec 1 := Scalar.cmpi .slt v477 c0_i32_342
  let v482 : BitVec 1 := Scalar.xori v480 v481
  let c0_i32_340 : BitVec 32 := 0#32
  let v479 : BitVec 1 := Scalar.cmpi .ne v478 c0_i32_340
  let v483 : BitVec 1 := Scalar.andi v482 v479
  let v484 : BitVec 32 := Scalar.addi v478 v477
  let v485 : BitVec 32 := Scalar.select v483 v484 v478
  let c1_i32_345 : BitVec 32 := 1#32
  let v487 : BitVec 32 := Scalar.muli v485 c1_i32_345
  let v488 : BitVec 32 := Scalar.addi c0_i32_346 v487
  v488.toNat
def k0_dev37 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_350 : BitVec 32 := 6#32
  let v492 : BitVec 32 := Scalar.addi v2 c6_i32_350
  let c32_i32_351 : BitVec 32 := 32#32
  let c0_i32_352 : BitVec 32 := 0#32
  let v493 : BitVec 1 := Scalar.cmpi .eq c32_i32_351 c0_i32_352
  let c1_i32_353 : BitVec 32 := 1#32
  let v494 : BitVec 32 := Scalar.select v493 c1_i32_353 c32_i32_351
  let v495 : BitVec 32 := Scalar.remsi v492 v494
  let c0_i32_355 : BitVec 32 := 0#32
  let v497 : BitVec 1 := Scalar.cmpi .slt v495 c0_i32_355
  let c0_i32_356 : BitVec 32 := 0#32
  let v498 : BitVec 1 := Scalar.cmpi .slt v494 c0_i32_356
  let v499 : BitVec 1 := Scalar.xori v497 v498
  let c0_i32_354 : BitVec 32 := 0#32
  let v496 : BitVec 1 := Scalar.cmpi .ne v495 c0_i32_354
  let v500 : BitVec 1 := Scalar.andi v499 v496
  let v501 : BitVec 32 := Scalar.addi v495 v494
  let v502 : BitVec 32 := Scalar.select v500 v501 v495
  let c1_i32_359 : BitVec 32 := 1#32
  let v504 : BitVec 32 := Scalar.muli v502 c1_i32_359
  let v505 : BitVec 32 := Scalar.addi c0_i32_360 v504
  v505.toNat
def k0_dev38 (d0 : Dev nD) : Nat :=
  let c0_i32_374 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_364 : BitVec 32 := 7#32
  let v509 : BitVec 32 := Scalar.addi v2 c7_i32_364
  let c32_i32_365 : BitVec 32 := 32#32
  let c0_i32_366 : BitVec 32 := 0#32
  let v510 : BitVec 1 := Scalar.cmpi .eq c32_i32_365 c0_i32_366
  let c1_i32_367 : BitVec 32 := 1#32
  let v511 : BitVec 32 := Scalar.select v510 c1_i32_367 c32_i32_365
  let v512 : BitVec 32 := Scalar.remsi v509 v511
  let c0_i32_369 : BitVec 32 := 0#32
  let v514 : BitVec 1 := Scalar.cmpi .slt v512 c0_i32_369
  let c0_i32_370 : BitVec 32 := 0#32
  let v515 : BitVec 1 := Scalar.cmpi .slt v511 c0_i32_370
  let v516 : BitVec 1 := Scalar.xori v514 v515
  let c0_i32_368 : BitVec 32 := 0#32
  let v513 : BitVec 1 := Scalar.cmpi .ne v512 c0_i32_368
  let v517 : BitVec 1 := Scalar.andi v516 v513
  let v518 : BitVec 32 := Scalar.addi v512 v511
  let v519 : BitVec 32 := Scalar.select v517 v518 v512
  let c1_i32_373 : BitVec 32 := 1#32
  let v521 : BitVec 32 := Scalar.muli v519 c1_i32_373
  let v522 : BitVec 32 := Scalar.addi c0_i32_374 v521
  v522.toNat
def k0_dev39 (d0 : Dev nD) : Nat :=
  let c0_i32_388 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_378 : BitVec 32 := 8#32
  let v526 : BitVec 32 := Scalar.addi v2 c8_i32_378
  let c32_i32_379 : BitVec 32 := 32#32
  let c0_i32_380 : BitVec 32 := 0#32
  let v527 : BitVec 1 := Scalar.cmpi .eq c32_i32_379 c0_i32_380
  let c1_i32_381 : BitVec 32 := 1#32
  let v528 : BitVec 32 := Scalar.select v527 c1_i32_381 c32_i32_379
  let v529 : BitVec 32 := Scalar.remsi v526 v528
  let c0_i32_383 : BitVec 32 := 0#32
  let v531 : BitVec 1 := Scalar.cmpi .slt v529 c0_i32_383
  let c0_i32_384 : BitVec 32 := 0#32
  let v532 : BitVec 1 := Scalar.cmpi .slt v528 c0_i32_384
  let v533 : BitVec 1 := Scalar.xori v531 v532
  let c0_i32_382 : BitVec 32 := 0#32
  let v530 : BitVec 1 := Scalar.cmpi .ne v529 c0_i32_382
  let v534 : BitVec 1 := Scalar.andi v533 v530
  let v535 : BitVec 32 := Scalar.addi v529 v528
  let v536 : BitVec 32 := Scalar.select v534 v535 v529
  let c1_i32_387 : BitVec 32 := 1#32
  let v538 : BitVec 32 := Scalar.muli v536 c1_i32_387
  let v539 : BitVec 32 := Scalar.addi c0_i32_388 v538
  v539.toNat
def k0_dev40 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_392 : BitVec 32 := 9#32
  let v543 : BitVec 32 := Scalar.addi v2 c9_i32_392
  let c32_i32_393 : BitVec 32 := 32#32
  let c0_i32_394 : BitVec 32 := 0#32
  let v544 : BitVec 1 := Scalar.cmpi .eq c32_i32_393 c0_i32_394
  let c1_i32_395 : BitVec 32 := 1#32
  let v545 : BitVec 32 := Scalar.select v544 c1_i32_395 c32_i32_393
  let v546 : BitVec 32 := Scalar.remsi v543 v545
  let c0_i32_397 : BitVec 32 := 0#32
  let v548 : BitVec 1 := Scalar.cmpi .slt v546 c0_i32_397
  let c0_i32_398 : BitVec 32 := 0#32
  let v549 : BitVec 1 := Scalar.cmpi .slt v545 c0_i32_398
  let v550 : BitVec 1 := Scalar.xori v548 v549
  let c0_i32_396 : BitVec 32 := 0#32
  let v547 : BitVec 1 := Scalar.cmpi .ne v546 c0_i32_396
  let v551 : BitVec 1 := Scalar.andi v550 v547
  let v552 : BitVec 32 := Scalar.addi v546 v545
  let v553 : BitVec 32 := Scalar.select v551 v552 v546
  let c1_i32_401 : BitVec 32 := 1#32
  let v555 : BitVec 32 := Scalar.muli v553 c1_i32_401
  let v556 : BitVec 32 := Scalar.addi c0_i32_402 v555
  v556.toNat
def k0_dev41 (d0 : Dev nD) : Nat :=
  let c0_i32_416 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_406 : BitVec 32 := 10#32
  let v560 : BitVec 32 := Scalar.addi v2 c10_i32_406
  let c32_i32_407 : BitVec 32 := 32#32
  let c0_i32_408 : BitVec 32 := 0#32
  let v561 : BitVec 1 := Scalar.cmpi .eq c32_i32_407 c0_i32_408
  let c1_i32_409 : BitVec 32 := 1#32
  let v562 : BitVec 32 := Scalar.select v561 c1_i32_409 c32_i32_407
  let v563 : BitVec 32 := Scalar.remsi v560 v562
  let c0_i32_411 : BitVec 32 := 0#32
  let v565 : BitVec 1 := Scalar.cmpi .slt v563 c0_i32_411
  let c0_i32_412 : BitVec 32 := 0#32
  let v566 : BitVec 1 := Scalar.cmpi .slt v562 c0_i32_412
  let v567 : BitVec 1 := Scalar.xori v565 v566
  let c0_i32_410 : BitVec 32 := 0#32
  let v564 : BitVec 1 := Scalar.cmpi .ne v563 c0_i32_410
  let v568 : BitVec 1 := Scalar.andi v567 v564
  let v569 : BitVec 32 := Scalar.addi v563 v562
  let v570 : BitVec 32 := Scalar.select v568 v569 v563
  let c1_i32_415 : BitVec 32 := 1#32
  let v572 : BitVec 32 := Scalar.muli v570 c1_i32_415
  let v573 : BitVec 32 := Scalar.addi c0_i32_416 v572
  v573.toNat
def k0_dev42 (d0 : Dev nD) : Nat :=
  let c0_i32_430 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_420 : BitVec 32 := 11#32
  let v577 : BitVec 32 := Scalar.addi v2 c11_i32_420
  let c32_i32_421 : BitVec 32 := 32#32
  let c0_i32_422 : BitVec 32 := 0#32
  let v578 : BitVec 1 := Scalar.cmpi .eq c32_i32_421 c0_i32_422
  let c1_i32_423 : BitVec 32 := 1#32
  let v579 : BitVec 32 := Scalar.select v578 c1_i32_423 c32_i32_421
  let v580 : BitVec 32 := Scalar.remsi v577 v579
  let c0_i32_425 : BitVec 32 := 0#32
  let v582 : BitVec 1 := Scalar.cmpi .slt v580 c0_i32_425
  let c0_i32_426 : BitVec 32 := 0#32
  let v583 : BitVec 1 := Scalar.cmpi .slt v579 c0_i32_426
  let v584 : BitVec 1 := Scalar.xori v582 v583
  let c0_i32_424 : BitVec 32 := 0#32
  let v581 : BitVec 1 := Scalar.cmpi .ne v580 c0_i32_424
  let v585 : BitVec 1 := Scalar.andi v584 v581
  let v586 : BitVec 32 := Scalar.addi v580 v579
  let v587 : BitVec 32 := Scalar.select v585 v586 v580
  let c1_i32_429 : BitVec 32 := 1#32
  let v589 : BitVec 32 := Scalar.muli v587 c1_i32_429
  let v590 : BitVec 32 := Scalar.addi c0_i32_430 v589
  v590.toNat
def k0_dev43 (d0 : Dev nD) : Nat :=
  let c0_i32_444 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_434 : BitVec 32 := 12#32
  let v594 : BitVec 32 := Scalar.addi v2 c12_i32_434
  let c32_i32_435 : BitVec 32 := 32#32
  let c0_i32_436 : BitVec 32 := 0#32
  let v595 : BitVec 1 := Scalar.cmpi .eq c32_i32_435 c0_i32_436
  let c1_i32_437 : BitVec 32 := 1#32
  let v596 : BitVec 32 := Scalar.select v595 c1_i32_437 c32_i32_435
  let v597 : BitVec 32 := Scalar.remsi v594 v596
  let c0_i32_439 : BitVec 32 := 0#32
  let v599 : BitVec 1 := Scalar.cmpi .slt v597 c0_i32_439
  let c0_i32_440 : BitVec 32 := 0#32
  let v600 : BitVec 1 := Scalar.cmpi .slt v596 c0_i32_440
  let v601 : BitVec 1 := Scalar.xori v599 v600
  let c0_i32_438 : BitVec 32 := 0#32
  let v598 : BitVec 1 := Scalar.cmpi .ne v597 c0_i32_438
  let v602 : BitVec 1 := Scalar.andi v601 v598
  let v603 : BitVec 32 := Scalar.addi v597 v596
  let v604 : BitVec 32 := Scalar.select v602 v603 v597
  let c1_i32_443 : BitVec 32 := 1#32
  let v606 : BitVec 32 := Scalar.muli v604 c1_i32_443
  let v607 : BitVec 32 := Scalar.addi c0_i32_444 v606
  v607.toNat
def k0_dev44 (d0 : Dev nD) : Nat :=
  let c0_i32_458 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_448 : BitVec 32 := 13#32
  let v611 : BitVec 32 := Scalar.addi v2 c13_i32_448
  let c32_i32_449 : BitVec 32 := 32#32
  let c0_i32_450 : BitVec 32 := 0#32
  let v612 : BitVec 1 := Scalar.cmpi .eq c32_i32_449 c0_i32_450
  let c1_i32_451 : BitVec 32 := 1#32
  let v613 : BitVec 32 := Scalar.select v612 c1_i32_451 c32_i32_449
  let v614 : BitVec 32 := Scalar.remsi v611 v613
  let c0_i32_453 : BitVec 32 := 0#32
  let v616 : BitVec 1 := Scalar.cmpi .slt v614 c0_i32_453
  let c0_i32_454 : BitVec 32 := 0#32
  let v617 : BitVec 1 := Scalar.cmpi .slt v613 c0_i32_454
  let v618 : BitVec 1 := Scalar.xori v616 v617
  let c0_i32_452 : BitVec 32 := 0#32
  let v615 : BitVec 1 := Scalar.cmpi .ne v614 c0_i32_452
  let v619 : BitVec 1 := Scalar.andi v618 v615
  let v620 : BitVec 32 := Scalar.addi v614 v613
  let v621 : BitVec 32 := Scalar.select v619 v620 v614
  let c1_i32_457 : BitVec 32 := 1#32
  let v623 : BitVec 32 := Scalar.muli v621 c1_i32_457
  let v624 : BitVec 32 := Scalar.addi c0_i32_458 v623
  v624.toNat
def k0_dev45 (d0 : Dev nD) : Nat :=
  let c0_i32_472 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_462 : BitVec 32 := 14#32
  let v628 : BitVec 32 := Scalar.addi v2 c14_i32_462
  let c32_i32_463 : BitVec 32 := 32#32
  let c0_i32_464 : BitVec 32 := 0#32
  let v629 : BitVec 1 := Scalar.cmpi .eq c32_i32_463 c0_i32_464
  let c1_i32_465 : BitVec 32 := 1#32
  let v630 : BitVec 32 := Scalar.select v629 c1_i32_465 c32_i32_463
  let v631 : BitVec 32 := Scalar.remsi v628 v630
  let c0_i32_467 : BitVec 32 := 0#32
  let v633 : BitVec 1 := Scalar.cmpi .slt v631 c0_i32_467
  let c0_i32_468 : BitVec 32 := 0#32
  let v634 : BitVec 1 := Scalar.cmpi .slt v630 c0_i32_468
  let v635 : BitVec 1 := Scalar.xori v633 v634
  let c0_i32_466 : BitVec 32 := 0#32
  let v632 : BitVec 1 := Scalar.cmpi .ne v631 c0_i32_466
  let v636 : BitVec 1 := Scalar.andi v635 v632
  let v637 : BitVec 32 := Scalar.addi v631 v630
  let v638 : BitVec 32 := Scalar.select v636 v637 v631
  let c1_i32_471 : BitVec 32 := 1#32
  let v640 : BitVec 32 := Scalar.muli v638 c1_i32_471
  let v641 : BitVec 32 := Scalar.addi c0_i32_472 v640
  v641.toNat
def k0_dev46 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_476 : BitVec 32 := 15#32
  let v645 : BitVec 32 := Scalar.addi v2 c15_i32_476
  let c32_i32_477 : BitVec 32 := 32#32
  let c0_i32_478 : BitVec 32 := 0#32
  let v646 : BitVec 1 := Scalar.cmpi .eq c32_i32_477 c0_i32_478
  let c1_i32_479 : BitVec 32 := 1#32
  let v647 : BitVec 32 := Scalar.select v646 c1_i32_479 c32_i32_477
  let v648 : BitVec 32 := Scalar.remsi v645 v647
  let c0_i32_481 : BitVec 32 := 0#32
  let v650 : BitVec 1 := Scalar.cmpi .slt v648 c0_i32_481
  let c0_i32_482 : BitVec 32 := 0#32
  let v651 : BitVec 1 := Scalar.cmpi .slt v647 c0_i32_482
  let v652 : BitVec 1 := Scalar.xori v650 v651
  let c0_i32_480 : BitVec 32 := 0#32
  let v649 : BitVec 1 := Scalar.cmpi .ne v648 c0_i32_480
  let v653 : BitVec 1 := Scalar.andi v652 v649
  let v654 : BitVec 32 := Scalar.addi v648 v647
  let v655 : BitVec 32 := Scalar.select v653 v654 v648
  let c1_i32_485 : BitVec 32 := 1#32
  let v657 : BitVec 32 := Scalar.muli v655 c1_i32_485
  let v658 : BitVec 32 := Scalar.addi c0_i32_486 v657
  v658.toNat
def k0_dev47 (d0 : Dev nD) : Nat :=
  let c0_i32_500 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_490 : BitVec 32 := 16#32
  let v662 : BitVec 32 := Scalar.addi v2 c16_i32_490
  let c32_i32_491 : BitVec 32 := 32#32
  let c0_i32_492 : BitVec 32 := 0#32
  let v663 : BitVec 1 := Scalar.cmpi .eq c32_i32_491 c0_i32_492
  let c1_i32_493 : BitVec 32 := 1#32
  let v664 : BitVec 32 := Scalar.select v663 c1_i32_493 c32_i32_491
  let v665 : BitVec 32 := Scalar.remsi v662 v664
  let c0_i32_495 : BitVec 32 := 0#32
  let v667 : BitVec 1 := Scalar.cmpi .slt v665 c0_i32_495
  let c0_i32_496 : BitVec 32 := 0#32
  let v668 : BitVec 1 := Scalar.cmpi .slt v664 c0_i32_496
  let v669 : BitVec 1 := Scalar.xori v667 v668
  let c0_i32_494 : BitVec 32 := 0#32
  let v666 : BitVec 1 := Scalar.cmpi .ne v665 c0_i32_494
  let v670 : BitVec 1 := Scalar.andi v669 v666
  let v671 : BitVec 32 := Scalar.addi v665 v664
  let v672 : BitVec 32 := Scalar.select v670 v671 v665
  let c1_i32_499 : BitVec 32 := 1#32
  let v674 : BitVec 32 := Scalar.muli v672 c1_i32_499
  let v675 : BitVec 32 := Scalar.addi c0_i32_500 v674
  v675.toNat
def k0_dev48 (d0 : Dev nD) : Nat :=
  let c0_i32_514 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_504 : BitVec 32 := 17#32
  let v679 : BitVec 32 := Scalar.addi v2 c17_i32_504
  let c32_i32_505 : BitVec 32 := 32#32
  let c0_i32_506 : BitVec 32 := 0#32
  let v680 : BitVec 1 := Scalar.cmpi .eq c32_i32_505 c0_i32_506
  let c1_i32_507 : BitVec 32 := 1#32
  let v681 : BitVec 32 := Scalar.select v680 c1_i32_507 c32_i32_505
  let v682 : BitVec 32 := Scalar.remsi v679 v681
  let c0_i32_509 : BitVec 32 := 0#32
  let v684 : BitVec 1 := Scalar.cmpi .slt v682 c0_i32_509
  let c0_i32_510 : BitVec 32 := 0#32
  let v685 : BitVec 1 := Scalar.cmpi .slt v681 c0_i32_510
  let v686 : BitVec 1 := Scalar.xori v684 v685
  let c0_i32_508 : BitVec 32 := 0#32
  let v683 : BitVec 1 := Scalar.cmpi .ne v682 c0_i32_508
  let v687 : BitVec 1 := Scalar.andi v686 v683
  let v688 : BitVec 32 := Scalar.addi v682 v681
  let v689 : BitVec 32 := Scalar.select v687 v688 v682
  let c1_i32_513 : BitVec 32 := 1#32
  let v691 : BitVec 32 := Scalar.muli v689 c1_i32_513
  let v692 : BitVec 32 := Scalar.addi c0_i32_514 v691
  v692.toNat
def k0_dev49 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_518 : BitVec 32 := 18#32
  let v696 : BitVec 32 := Scalar.addi v2 c18_i32_518
  let c32_i32_519 : BitVec 32 := 32#32
  let c0_i32_520 : BitVec 32 := 0#32
  let v697 : BitVec 1 := Scalar.cmpi .eq c32_i32_519 c0_i32_520
  let c1_i32_521 : BitVec 32 := 1#32
  let v698 : BitVec 32 := Scalar.select v697 c1_i32_521 c32_i32_519
  let v699 : BitVec 32 := Scalar.remsi v696 v698
  let c0_i32_523 : BitVec 32 := 0#32
  let v701 : BitVec 1 := Scalar.cmpi .slt v699 c0_i32_523
  let c0_i32_524 : BitVec 32 := 0#32
  let v702 : BitVec 1 := Scalar.cmpi .slt v698 c0_i32_524
  let v703 : BitVec 1 := Scalar.xori v701 v702
  let c0_i32_522 : BitVec 32 := 0#32
  let v700 : BitVec 1 := Scalar.cmpi .ne v699 c0_i32_522
  let v704 : BitVec 1 := Scalar.andi v703 v700
  let v705 : BitVec 32 := Scalar.addi v699 v698
  let v706 : BitVec 32 := Scalar.select v704 v705 v699
  let c1_i32_527 : BitVec 32 := 1#32
  let v708 : BitVec 32 := Scalar.muli v706 c1_i32_527
  let v709 : BitVec 32 := Scalar.addi c0_i32_528 v708
  v709.toNat
def k0_dev50 (d0 : Dev nD) : Nat :=
  let c0_i32_542 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_532 : BitVec 32 := 19#32
  let v713 : BitVec 32 := Scalar.addi v2 c19_i32_532
  let c32_i32_533 : BitVec 32 := 32#32
  let c0_i32_534 : BitVec 32 := 0#32
  let v714 : BitVec 1 := Scalar.cmpi .eq c32_i32_533 c0_i32_534
  let c1_i32_535 : BitVec 32 := 1#32
  let v715 : BitVec 32 := Scalar.select v714 c1_i32_535 c32_i32_533
  let v716 : BitVec 32 := Scalar.remsi v713 v715
  let c0_i32_537 : BitVec 32 := 0#32
  let v718 : BitVec 1 := Scalar.cmpi .slt v716 c0_i32_537
  let c0_i32_538 : BitVec 32 := 0#32
  let v719 : BitVec 1 := Scalar.cmpi .slt v715 c0_i32_538
  let v720 : BitVec 1 := Scalar.xori v718 v719
  let c0_i32_536 : BitVec 32 := 0#32
  let v717 : BitVec 1 := Scalar.cmpi .ne v716 c0_i32_536
  let v721 : BitVec 1 := Scalar.andi v720 v717
  let v722 : BitVec 32 := Scalar.addi v716 v715
  let v723 : BitVec 32 := Scalar.select v721 v722 v716
  let c1_i32_541 : BitVec 32 := 1#32
  let v725 : BitVec 32 := Scalar.muli v723 c1_i32_541
  let v726 : BitVec 32 := Scalar.addi c0_i32_542 v725
  v726.toNat
def k0_dev51 (d0 : Dev nD) : Nat :=
  let c0_i32_556 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_546 : BitVec 32 := 20#32
  let v730 : BitVec 32 := Scalar.addi v2 c20_i32_546
  let c32_i32_547 : BitVec 32 := 32#32
  let c0_i32_548 : BitVec 32 := 0#32
  let v731 : BitVec 1 := Scalar.cmpi .eq c32_i32_547 c0_i32_548
  let c1_i32_549 : BitVec 32 := 1#32
  let v732 : BitVec 32 := Scalar.select v731 c1_i32_549 c32_i32_547
  let v733 : BitVec 32 := Scalar.remsi v730 v732
  let c0_i32_551 : BitVec 32 := 0#32
  let v735 : BitVec 1 := Scalar.cmpi .slt v733 c0_i32_551
  let c0_i32_552 : BitVec 32 := 0#32
  let v736 : BitVec 1 := Scalar.cmpi .slt v732 c0_i32_552
  let v737 : BitVec 1 := Scalar.xori v735 v736
  let c0_i32_550 : BitVec 32 := 0#32
  let v734 : BitVec 1 := Scalar.cmpi .ne v733 c0_i32_550
  let v738 : BitVec 1 := Scalar.andi v737 v734
  let v739 : BitVec 32 := Scalar.addi v733 v732
  let v740 : BitVec 32 := Scalar.select v738 v739 v733
  let c1_i32_555 : BitVec 32 := 1#32
  let v742 : BitVec 32 := Scalar.muli v740 c1_i32_555
  let v743 : BitVec 32 := Scalar.addi c0_i32_556 v742
  v743.toNat
def k0_dev52 (d0 : Dev nD) : Nat :=
  let c0_i32_570 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_560 : BitVec 32 := 21#32
  let v747 : BitVec 32 := Scalar.addi v2 c21_i32_560
  let c32_i32_561 : BitVec 32 := 32#32
  let c0_i32_562 : BitVec 32 := 0#32
  let v748 : BitVec 1 := Scalar.cmpi .eq c32_i32_561 c0_i32_562
  let c1_i32_563 : BitVec 32 := 1#32
  let v749 : BitVec 32 := Scalar.select v748 c1_i32_563 c32_i32_561
  let v750 : BitVec 32 := Scalar.remsi v747 v749
  let c0_i32_565 : BitVec 32 := 0#32
  let v752 : BitVec 1 := Scalar.cmpi .slt v750 c0_i32_565
  let c0_i32_566 : BitVec 32 := 0#32
  let v753 : BitVec 1 := Scalar.cmpi .slt v749 c0_i32_566
  let v754 : BitVec 1 := Scalar.xori v752 v753
  let c0_i32_564 : BitVec 32 := 0#32
  let v751 : BitVec 1 := Scalar.cmpi .ne v750 c0_i32_564
  let v755 : BitVec 1 := Scalar.andi v754 v751
  let v756 : BitVec 32 := Scalar.addi v750 v749
  let v757 : BitVec 32 := Scalar.select v755 v756 v750
  let c1_i32_569 : BitVec 32 := 1#32
  let v759 : BitVec 32 := Scalar.muli v757 c1_i32_569
  let v760 : BitVec 32 := Scalar.addi c0_i32_570 v759
  v760.toNat
def k0_dev53 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_574 : BitVec 32 := 22#32
  let v764 : BitVec 32 := Scalar.addi v2 c22_i32_574
  let c32_i32_575 : BitVec 32 := 32#32
  let c0_i32_576 : BitVec 32 := 0#32
  let v765 : BitVec 1 := Scalar.cmpi .eq c32_i32_575 c0_i32_576
  let c1_i32_577 : BitVec 32 := 1#32
  let v766 : BitVec 32 := Scalar.select v765 c1_i32_577 c32_i32_575
  let v767 : BitVec 32 := Scalar.remsi v764 v766
  let c0_i32_579 : BitVec 32 := 0#32
  let v769 : BitVec 1 := Scalar.cmpi .slt v767 c0_i32_579
  let c0_i32_580 : BitVec 32 := 0#32
  let v770 : BitVec 1 := Scalar.cmpi .slt v766 c0_i32_580
  let v771 : BitVec 1 := Scalar.xori v769 v770
  let c0_i32_578 : BitVec 32 := 0#32
  let v768 : BitVec 1 := Scalar.cmpi .ne v767 c0_i32_578
  let v772 : BitVec 1 := Scalar.andi v771 v768
  let v773 : BitVec 32 := Scalar.addi v767 v766
  let v774 : BitVec 32 := Scalar.select v772 v773 v767
  let c1_i32_583 : BitVec 32 := 1#32
  let v776 : BitVec 32 := Scalar.muli v774 c1_i32_583
  let v777 : BitVec 32 := Scalar.addi c0_i32_584 v776
  v777.toNat
def k0_dev54 (d0 : Dev nD) : Nat :=
  let c0_i32_598 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_588 : BitVec 32 := 23#32
  let v781 : BitVec 32 := Scalar.addi v2 c23_i32_588
  let c32_i32_589 : BitVec 32 := 32#32
  let c0_i32_590 : BitVec 32 := 0#32
  let v782 : BitVec 1 := Scalar.cmpi .eq c32_i32_589 c0_i32_590
  let c1_i32_591 : BitVec 32 := 1#32
  let v783 : BitVec 32 := Scalar.select v782 c1_i32_591 c32_i32_589
  let v784 : BitVec 32 := Scalar.remsi v781 v783
  let c0_i32_593 : BitVec 32 := 0#32
  let v786 : BitVec 1 := Scalar.cmpi .slt v784 c0_i32_593
  let c0_i32_594 : BitVec 32 := 0#32
  let v787 : BitVec 1 := Scalar.cmpi .slt v783 c0_i32_594
  let v788 : BitVec 1 := Scalar.xori v786 v787
  let c0_i32_592 : BitVec 32 := 0#32
  let v785 : BitVec 1 := Scalar.cmpi .ne v784 c0_i32_592
  let v789 : BitVec 1 := Scalar.andi v788 v785
  let v790 : BitVec 32 := Scalar.addi v784 v783
  let v791 : BitVec 32 := Scalar.select v789 v790 v784
  let c1_i32_597 : BitVec 32 := 1#32
  let v793 : BitVec 32 := Scalar.muli v791 c1_i32_597
  let v794 : BitVec 32 := Scalar.addi c0_i32_598 v793
  v794.toNat
def k0_dev55 (d0 : Dev nD) : Nat :=
  let c0_i32_612 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_602 : BitVec 32 := 24#32
  let v798 : BitVec 32 := Scalar.addi v2 c24_i32_602
  let c32_i32_603 : BitVec 32 := 32#32
  let c0_i32_604 : BitVec 32 := 0#32
  let v799 : BitVec 1 := Scalar.cmpi .eq c32_i32_603 c0_i32_604
  let c1_i32_605 : BitVec 32 := 1#32
  let v800 : BitVec 32 := Scalar.select v799 c1_i32_605 c32_i32_603
  let v801 : BitVec 32 := Scalar.remsi v798 v800
  let c0_i32_607 : BitVec 32 := 0#32
  let v803 : BitVec 1 := Scalar.cmpi .slt v801 c0_i32_607
  let c0_i32_608 : BitVec 32 := 0#32
  let v804 : BitVec 1 := Scalar.cmpi .slt v800 c0_i32_608
  let v805 : BitVec 1 := Scalar.xori v803 v804
  let c0_i32_606 : BitVec 32 := 0#32
  let v802 : BitVec 1 := Scalar.cmpi .ne v801 c0_i32_606
  let v806 : BitVec 1 := Scalar.andi v805 v802
  let v807 : BitVec 32 := Scalar.addi v801 v800
  let v808 : BitVec 32 := Scalar.select v806 v807 v801
  let c1_i32_611 : BitVec 32 := 1#32
  let v810 : BitVec 32 := Scalar.muli v808 c1_i32_611
  let v811 : BitVec 32 := Scalar.addi c0_i32_612 v810
  v811.toNat
def k0_dev56 (d0 : Dev nD) : Nat :=
  let c0_i32_626 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_616 : BitVec 32 := 25#32
  let v815 : BitVec 32 := Scalar.addi v2 c25_i32_616
  let c32_i32_617 : BitVec 32 := 32#32
  let c0_i32_618 : BitVec 32 := 0#32
  let v816 : BitVec 1 := Scalar.cmpi .eq c32_i32_617 c0_i32_618
  let c1_i32_619 : BitVec 32 := 1#32
  let v817 : BitVec 32 := Scalar.select v816 c1_i32_619 c32_i32_617
  let v818 : BitVec 32 := Scalar.remsi v815 v817
  let c0_i32_621 : BitVec 32 := 0#32
  let v820 : BitVec 1 := Scalar.cmpi .slt v818 c0_i32_621
  let c0_i32_622 : BitVec 32 := 0#32
  let v821 : BitVec 1 := Scalar.cmpi .slt v817 c0_i32_622
  let v822 : BitVec 1 := Scalar.xori v820 v821
  let c0_i32_620 : BitVec 32 := 0#32
  let v819 : BitVec 1 := Scalar.cmpi .ne v818 c0_i32_620
  let v823 : BitVec 1 := Scalar.andi v822 v819
  let v824 : BitVec 32 := Scalar.addi v818 v817
  let v825 : BitVec 32 := Scalar.select v823 v824 v818
  let c1_i32_625 : BitVec 32 := 1#32
  let v827 : BitVec 32 := Scalar.muli v825 c1_i32_625
  let v828 : BitVec 32 := Scalar.addi c0_i32_626 v827
  v828.toNat
def k0_dev57 (d0 : Dev nD) : Nat :=
  let c0_i32_640 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_630 : BitVec 32 := 26#32
  let v832 : BitVec 32 := Scalar.addi v2 c26_i32_630
  let c32_i32_631 : BitVec 32 := 32#32
  let c0_i32_632 : BitVec 32 := 0#32
  let v833 : BitVec 1 := Scalar.cmpi .eq c32_i32_631 c0_i32_632
  let c1_i32_633 : BitVec 32 := 1#32
  let v834 : BitVec 32 := Scalar.select v833 c1_i32_633 c32_i32_631
  let v835 : BitVec 32 := Scalar.remsi v832 v834
  let c0_i32_635 : BitVec 32 := 0#32
  let v837 : BitVec 1 := Scalar.cmpi .slt v835 c0_i32_635
  let c0_i32_636 : BitVec 32 := 0#32
  let v838 : BitVec 1 := Scalar.cmpi .slt v834 c0_i32_636
  let v839 : BitVec 1 := Scalar.xori v837 v838
  let c0_i32_634 : BitVec 32 := 0#32
  let v836 : BitVec 1 := Scalar.cmpi .ne v835 c0_i32_634
  let v840 : BitVec 1 := Scalar.andi v839 v836
  let v841 : BitVec 32 := Scalar.addi v835 v834
  let v842 : BitVec 32 := Scalar.select v840 v841 v835
  let c1_i32_639 : BitVec 32 := 1#32
  let v844 : BitVec 32 := Scalar.muli v842 c1_i32_639
  let v845 : BitVec 32 := Scalar.addi c0_i32_640 v844
  v845.toNat
def k0_dev58 (d0 : Dev nD) : Nat :=
  let c0_i32_654 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_644 : BitVec 32 := 27#32
  let v849 : BitVec 32 := Scalar.addi v2 c27_i32_644
  let c32_i32_645 : BitVec 32 := 32#32
  let c0_i32_646 : BitVec 32 := 0#32
  let v850 : BitVec 1 := Scalar.cmpi .eq c32_i32_645 c0_i32_646
  let c1_i32_647 : BitVec 32 := 1#32
  let v851 : BitVec 32 := Scalar.select v850 c1_i32_647 c32_i32_645
  let v852 : BitVec 32 := Scalar.remsi v849 v851
  let c0_i32_649 : BitVec 32 := 0#32
  let v854 : BitVec 1 := Scalar.cmpi .slt v852 c0_i32_649
  let c0_i32_650 : BitVec 32 := 0#32
  let v855 : BitVec 1 := Scalar.cmpi .slt v851 c0_i32_650
  let v856 : BitVec 1 := Scalar.xori v854 v855
  let c0_i32_648 : BitVec 32 := 0#32
  let v853 : BitVec 1 := Scalar.cmpi .ne v852 c0_i32_648
  let v857 : BitVec 1 := Scalar.andi v856 v853
  let v858 : BitVec 32 := Scalar.addi v852 v851
  let v859 : BitVec 32 := Scalar.select v857 v858 v852
  let c1_i32_653 : BitVec 32 := 1#32
  let v861 : BitVec 32 := Scalar.muli v859 c1_i32_653
  let v862 : BitVec 32 := Scalar.addi c0_i32_654 v861
  v862.toNat
def k0_dev59 (d0 : Dev nD) : Nat :=
  let c0_i32_668 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_658 : BitVec 32 := 28#32
  let v866 : BitVec 32 := Scalar.addi v2 c28_i32_658
  let c32_i32_659 : BitVec 32 := 32#32
  let c0_i32_660 : BitVec 32 := 0#32
  let v867 : BitVec 1 := Scalar.cmpi .eq c32_i32_659 c0_i32_660
  let c1_i32_661 : BitVec 32 := 1#32
  let v868 : BitVec 32 := Scalar.select v867 c1_i32_661 c32_i32_659
  let v869 : BitVec 32 := Scalar.remsi v866 v868
  let c0_i32_663 : BitVec 32 := 0#32
  let v871 : BitVec 1 := Scalar.cmpi .slt v869 c0_i32_663
  let c0_i32_664 : BitVec 32 := 0#32
  let v872 : BitVec 1 := Scalar.cmpi .slt v868 c0_i32_664
  let v873 : BitVec 1 := Scalar.xori v871 v872
  let c0_i32_662 : BitVec 32 := 0#32
  let v870 : BitVec 1 := Scalar.cmpi .ne v869 c0_i32_662
  let v874 : BitVec 1 := Scalar.andi v873 v870
  let v875 : BitVec 32 := Scalar.addi v869 v868
  let v876 : BitVec 32 := Scalar.select v874 v875 v869
  let c1_i32_667 : BitVec 32 := 1#32
  let v878 : BitVec 32 := Scalar.muli v876 c1_i32_667
  let v879 : BitVec 32 := Scalar.addi c0_i32_668 v878
  v879.toNat
def k0_dev60 (d0 : Dev nD) : Nat :=
  let c0_i32_682 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_672 : BitVec 32 := 29#32
  let v883 : BitVec 32 := Scalar.addi v2 c29_i32_672
  let c32_i32_673 : BitVec 32 := 32#32
  let c0_i32_674 : BitVec 32 := 0#32
  let v884 : BitVec 1 := Scalar.cmpi .eq c32_i32_673 c0_i32_674
  let c1_i32_675 : BitVec 32 := 1#32
  let v885 : BitVec 32 := Scalar.select v884 c1_i32_675 c32_i32_673
  let v886 : BitVec 32 := Scalar.remsi v883 v885
  let c0_i32_677 : BitVec 32 := 0#32
  let v888 : BitVec 1 := Scalar.cmpi .slt v886 c0_i32_677
  let c0_i32_678 : BitVec 32 := 0#32
  let v889 : BitVec 1 := Scalar.cmpi .slt v885 c0_i32_678
  let v890 : BitVec 1 := Scalar.xori v888 v889
  let c0_i32_676 : BitVec 32 := 0#32
  let v887 : BitVec 1 := Scalar.cmpi .ne v886 c0_i32_676
  let v891 : BitVec 1 := Scalar.andi v890 v887
  let v892 : BitVec 32 := Scalar.addi v886 v885
  let v893 : BitVec 32 := Scalar.select v891 v892 v886
  let c1_i32_681 : BitVec 32 := 1#32
  let v895 : BitVec 32 := Scalar.muli v893 c1_i32_681
  let v896 : BitVec 32 := Scalar.addi c0_i32_682 v895
  v896.toNat
def k0_dev61 (d0 : Dev nD) : Nat :=
  let c0_i32_696 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_686 : BitVec 32 := 30#32
  let v900 : BitVec 32 := Scalar.addi v2 c30_i32_686
  let c32_i32_687 : BitVec 32 := 32#32
  let c0_i32_688 : BitVec 32 := 0#32
  let v901 : BitVec 1 := Scalar.cmpi .eq c32_i32_687 c0_i32_688
  let c1_i32_689 : BitVec 32 := 1#32
  let v902 : BitVec 32 := Scalar.select v901 c1_i32_689 c32_i32_687
  let v903 : BitVec 32 := Scalar.remsi v900 v902
  let c0_i32_691 : BitVec 32 := 0#32
  let v905 : BitVec 1 := Scalar.cmpi .slt v903 c0_i32_691
  let c0_i32_692 : BitVec 32 := 0#32
  let v906 : BitVec 1 := Scalar.cmpi .slt v902 c0_i32_692
  let v907 : BitVec 1 := Scalar.xori v905 v906
  let c0_i32_690 : BitVec 32 := 0#32
  let v904 : BitVec 1 := Scalar.cmpi .ne v903 c0_i32_690
  let v908 : BitVec 1 := Scalar.andi v907 v904
  let v909 : BitVec 32 := Scalar.addi v903 v902
  let v910 : BitVec 32 := Scalar.select v908 v909 v903
  let c1_i32_695 : BitVec 32 := 1#32
  let v912 : BitVec 32 := Scalar.muli v910 c1_i32_695
  let v913 : BitVec 32 := Scalar.addi c0_i32_696 v912
  v913.toNat
def k0_dev62 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_700 : BitVec 32 := 31#32
  let v917 : BitVec 32 := Scalar.addi v2 c31_i32_700
  let c32_i32_701 : BitVec 32 := 32#32
  let c0_i32_702 : BitVec 32 := 0#32
  let v918 : BitVec 1 := Scalar.cmpi .eq c32_i32_701 c0_i32_702
  let c1_i32_703 : BitVec 32 := 1#32
  let v919 : BitVec 32 := Scalar.select v918 c1_i32_703 c32_i32_701
  let v920 : BitVec 32 := Scalar.remsi v917 v919
  let c0_i32_705 : BitVec 32 := 0#32
  let v922 : BitVec 1 := Scalar.cmpi .slt v920 c0_i32_705
  let c0_i32_706 : BitVec 32 := 0#32
  let v923 : BitVec 1 := Scalar.cmpi .slt v919 c0_i32_706
  let v924 : BitVec 1 := Scalar.xori v922 v923
  let c0_i32_704 : BitVec 32 := 0#32
  let v921 : BitVec 1 := Scalar.cmpi .ne v920 c0_i32_704
  let v925 : BitVec 1 := Scalar.andi v924 v921
  let v926 : BitVec 32 := Scalar.addi v920 v919
  let v927 : BitVec 32 := Scalar.select v925 v926 v920
  let c1_i32_709 : BitVec 32 := 1#32
  let v929 : BitVec 32 := Scalar.muli v927 c1_i32_709
  let v930 : BitVec 32 := Scalar.addi c0_i32_710 v929
  v930.toNat
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_871 : BitVec 32 := 32#32
  let v1029 : BitVec 32 := Scalar.muli v2 c32_i32_871
  let v1030 : Index := Scalar.indexCast v1029
  let c0 : Index := 0#32
  ![v1030.toNat, 0]
def k0_off3 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_871 : BitVec 32 := 32#32
  let v1029 : BitVec 32 := Scalar.muli v2 c32_i32_871
  let c0_i32_885 : BitVec 32 := 0#32
  ![v1029.toNat, 0]
def k0_dev63 (d0 : Dev nD) : Nat :=
  let c0_i32_884 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_876 : BitVec 32 := 1#32
  let v1043 : BitVec 32 := Scalar.addi v2 c1_i32_876
  let c32_i32_877 : BitVec 32 := 32#32
  let c0_i32_878 : BitVec 32 := 0#32
  let v1044 : BitVec 1 := Scalar.cmpi .eq c32_i32_877 c0_i32_878
  let c1_i32_879 : BitVec 32 := 1#32
  let v1045 : BitVec 32 := Scalar.select v1044 c1_i32_879 c32_i32_877
  let v1046 : BitVec 32 := Scalar.remsi v1043 v1045
  let c0_i32_881 : BitVec 32 := 0#32
  let v1048 : BitVec 1 := Scalar.cmpi .slt v1046 c0_i32_881
  let c0_i32_882 : BitVec 32 := 0#32
  let v1049 : BitVec 1 := Scalar.cmpi .slt v1045 c0_i32_882
  let v1050 : BitVec 1 := Scalar.xori v1048 v1049
  let c0_i32_880 : BitVec 32 := 0#32
  let v1047 : BitVec 1 := Scalar.cmpi .ne v1046 c0_i32_880
  let v1051 : BitVec 1 := Scalar.andi v1050 v1047
  let v1052 : BitVec 32 := Scalar.addi v1046 v1045
  let v1053 : BitVec 32 := Scalar.select v1051 v1052 v1046
  let c1_i32_883 : BitVec 32 := 1#32
  let v1054 : BitVec 32 := Scalar.muli v1053 c1_i32_883
  let v1055 : BitVec 32 := Scalar.addi c0_i32_884 v1054
  v1055.toNat
def k0_dev64 (d0 : Dev nD) : Nat :=
  let c0_i32_895 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_887 : BitVec 32 := 2#32
  let v1058 : BitVec 32 := Scalar.addi v2 c2_i32_887
  let c32_i32_888 : BitVec 32 := 32#32
  let c0_i32_889 : BitVec 32 := 0#32
  let v1059 : BitVec 1 := Scalar.cmpi .eq c32_i32_888 c0_i32_889
  let c1_i32_890 : BitVec 32 := 1#32
  let v1060 : BitVec 32 := Scalar.select v1059 c1_i32_890 c32_i32_888
  let v1061 : BitVec 32 := Scalar.remsi v1058 v1060
  let c0_i32_892 : BitVec 32 := 0#32
  let v1063 : BitVec 1 := Scalar.cmpi .slt v1061 c0_i32_892
  let c0_i32_893 : BitVec 32 := 0#32
  let v1064 : BitVec 1 := Scalar.cmpi .slt v1060 c0_i32_893
  let v1065 : BitVec 1 := Scalar.xori v1063 v1064
  let c0_i32_891 : BitVec 32 := 0#32
  let v1062 : BitVec 1 := Scalar.cmpi .ne v1061 c0_i32_891
  let v1066 : BitVec 1 := Scalar.andi v1065 v1062
  let v1067 : BitVec 32 := Scalar.addi v1061 v1060
  let v1068 : BitVec 32 := Scalar.select v1066 v1067 v1061
  let c1_i32_894 : BitVec 32 := 1#32
  let v1069 : BitVec 32 := Scalar.muli v1068 c1_i32_894
  let v1070 : BitVec 32 := Scalar.addi c0_i32_895 v1069
  v1070.toNat
def k0_dev65 (d0 : Dev nD) : Nat :=
  let c0_i32_906 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_898 : BitVec 32 := 3#32
  let v1073 : BitVec 32 := Scalar.addi v2 c3_i32_898
  let c32_i32_899 : BitVec 32 := 32#32
  let c0_i32_900 : BitVec 32 := 0#32
  let v1074 : BitVec 1 := Scalar.cmpi .eq c32_i32_899 c0_i32_900
  let c1_i32_901 : BitVec 32 := 1#32
  let v1075 : BitVec 32 := Scalar.select v1074 c1_i32_901 c32_i32_899
  let v1076 : BitVec 32 := Scalar.remsi v1073 v1075
  let c0_i32_903 : BitVec 32 := 0#32
  let v1078 : BitVec 1 := Scalar.cmpi .slt v1076 c0_i32_903
  let c0_i32_904 : BitVec 32 := 0#32
  let v1079 : BitVec 1 := Scalar.cmpi .slt v1075 c0_i32_904
  let v1080 : BitVec 1 := Scalar.xori v1078 v1079
  let c0_i32_902 : BitVec 32 := 0#32
  let v1077 : BitVec 1 := Scalar.cmpi .ne v1076 c0_i32_902
  let v1081 : BitVec 1 := Scalar.andi v1080 v1077
  let v1082 : BitVec 32 := Scalar.addi v1076 v1075
  let v1083 : BitVec 32 := Scalar.select v1081 v1082 v1076
  let c1_i32_905 : BitVec 32 := 1#32
  let v1084 : BitVec 32 := Scalar.muli v1083 c1_i32_905
  let v1085 : BitVec 32 := Scalar.addi c0_i32_906 v1084
  v1085.toNat
def k0_dev66 (d0 : Dev nD) : Nat :=
  let c0_i32_917 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_909 : BitVec 32 := 4#32
  let v1088 : BitVec 32 := Scalar.addi v2 c4_i32_909
  let c32_i32_910 : BitVec 32 := 32#32
  let c0_i32_911 : BitVec 32 := 0#32
  let v1089 : BitVec 1 := Scalar.cmpi .eq c32_i32_910 c0_i32_911
  let c1_i32_912 : BitVec 32 := 1#32
  let v1090 : BitVec 32 := Scalar.select v1089 c1_i32_912 c32_i32_910
  let v1091 : BitVec 32 := Scalar.remsi v1088 v1090
  let c0_i32_914 : BitVec 32 := 0#32
  let v1093 : BitVec 1 := Scalar.cmpi .slt v1091 c0_i32_914
  let c0_i32_915 : BitVec 32 := 0#32
  let v1094 : BitVec 1 := Scalar.cmpi .slt v1090 c0_i32_915
  let v1095 : BitVec 1 := Scalar.xori v1093 v1094
  let c0_i32_913 : BitVec 32 := 0#32
  let v1092 : BitVec 1 := Scalar.cmpi .ne v1091 c0_i32_913
  let v1096 : BitVec 1 := Scalar.andi v1095 v1092
  let v1097 : BitVec 32 := Scalar.addi v1091 v1090
  let v1098 : BitVec 32 := Scalar.select v1096 v1097 v1091
  let c1_i32_916 : BitVec 32 := 1#32
  let v1099 : BitVec 32 := Scalar.muli v1098 c1_i32_916
  let v1100 : BitVec 32 := Scalar.addi c0_i32_917 v1099
  v1100.toNat
def k0_dev67 (d0 : Dev nD) : Nat :=
  let c0_i32_928 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_920 : BitVec 32 := 5#32
  let v1103 : BitVec 32 := Scalar.addi v2 c5_i32_920
  let c32_i32_921 : BitVec 32 := 32#32
  let c0_i32_922 : BitVec 32 := 0#32
  let v1104 : BitVec 1 := Scalar.cmpi .eq c32_i32_921 c0_i32_922
  let c1_i32_923 : BitVec 32 := 1#32
  let v1105 : BitVec 32 := Scalar.select v1104 c1_i32_923 c32_i32_921
  let v1106 : BitVec 32 := Scalar.remsi v1103 v1105
  let c0_i32_925 : BitVec 32 := 0#32
  let v1108 : BitVec 1 := Scalar.cmpi .slt v1106 c0_i32_925
  let c0_i32_926 : BitVec 32 := 0#32
  let v1109 : BitVec 1 := Scalar.cmpi .slt v1105 c0_i32_926
  let v1110 : BitVec 1 := Scalar.xori v1108 v1109
  let c0_i32_924 : BitVec 32 := 0#32
  let v1107 : BitVec 1 := Scalar.cmpi .ne v1106 c0_i32_924
  let v1111 : BitVec 1 := Scalar.andi v1110 v1107
  let v1112 : BitVec 32 := Scalar.addi v1106 v1105
  let v1113 : BitVec 32 := Scalar.select v1111 v1112 v1106
  let c1_i32_927 : BitVec 32 := 1#32
  let v1114 : BitVec 32 := Scalar.muli v1113 c1_i32_927
  let v1115 : BitVec 32 := Scalar.addi c0_i32_928 v1114
  v1115.toNat
def k0_dev68 (d0 : Dev nD) : Nat :=
  let c0_i32_939 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_931 : BitVec 32 := 6#32
  let v1118 : BitVec 32 := Scalar.addi v2 c6_i32_931
  let c32_i32_932 : BitVec 32 := 32#32
  let c0_i32_933 : BitVec 32 := 0#32
  let v1119 : BitVec 1 := Scalar.cmpi .eq c32_i32_932 c0_i32_933
  let c1_i32_934 : BitVec 32 := 1#32
  let v1120 : BitVec 32 := Scalar.select v1119 c1_i32_934 c32_i32_932
  let v1121 : BitVec 32 := Scalar.remsi v1118 v1120
  let c0_i32_936 : BitVec 32 := 0#32
  let v1123 : BitVec 1 := Scalar.cmpi .slt v1121 c0_i32_936
  let c0_i32_937 : BitVec 32 := 0#32
  let v1124 : BitVec 1 := Scalar.cmpi .slt v1120 c0_i32_937
  let v1125 : BitVec 1 := Scalar.xori v1123 v1124
  let c0_i32_935 : BitVec 32 := 0#32
  let v1122 : BitVec 1 := Scalar.cmpi .ne v1121 c0_i32_935
  let v1126 : BitVec 1 := Scalar.andi v1125 v1122
  let v1127 : BitVec 32 := Scalar.addi v1121 v1120
  let v1128 : BitVec 32 := Scalar.select v1126 v1127 v1121
  let c1_i32_938 : BitVec 32 := 1#32
  let v1129 : BitVec 32 := Scalar.muli v1128 c1_i32_938
  let v1130 : BitVec 32 := Scalar.addi c0_i32_939 v1129
  v1130.toNat
def k0_dev69 (d0 : Dev nD) : Nat :=
  let c0_i32_950 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_942 : BitVec 32 := 7#32
  let v1133 : BitVec 32 := Scalar.addi v2 c7_i32_942
  let c32_i32_943 : BitVec 32 := 32#32
  let c0_i32_944 : BitVec 32 := 0#32
  let v1134 : BitVec 1 := Scalar.cmpi .eq c32_i32_943 c0_i32_944
  let c1_i32_945 : BitVec 32 := 1#32
  let v1135 : BitVec 32 := Scalar.select v1134 c1_i32_945 c32_i32_943
  let v1136 : BitVec 32 := Scalar.remsi v1133 v1135
  let c0_i32_947 : BitVec 32 := 0#32
  let v1138 : BitVec 1 := Scalar.cmpi .slt v1136 c0_i32_947
  let c0_i32_948 : BitVec 32 := 0#32
  let v1139 : BitVec 1 := Scalar.cmpi .slt v1135 c0_i32_948
  let v1140 : BitVec 1 := Scalar.xori v1138 v1139
  let c0_i32_946 : BitVec 32 := 0#32
  let v1137 : BitVec 1 := Scalar.cmpi .ne v1136 c0_i32_946
  let v1141 : BitVec 1 := Scalar.andi v1140 v1137
  let v1142 : BitVec 32 := Scalar.addi v1136 v1135
  let v1143 : BitVec 32 := Scalar.select v1141 v1142 v1136
  let c1_i32_949 : BitVec 32 := 1#32
  let v1144 : BitVec 32 := Scalar.muli v1143 c1_i32_949
  let v1145 : BitVec 32 := Scalar.addi c0_i32_950 v1144
  v1145.toNat
def k0_dev70 (d0 : Dev nD) : Nat :=
  let c0_i32_961 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_953 : BitVec 32 := 8#32
  let v1148 : BitVec 32 := Scalar.addi v2 c8_i32_953
  let c32_i32_954 : BitVec 32 := 32#32
  let c0_i32_955 : BitVec 32 := 0#32
  let v1149 : BitVec 1 := Scalar.cmpi .eq c32_i32_954 c0_i32_955
  let c1_i32_956 : BitVec 32 := 1#32
  let v1150 : BitVec 32 := Scalar.select v1149 c1_i32_956 c32_i32_954
  let v1151 : BitVec 32 := Scalar.remsi v1148 v1150
  let c0_i32_958 : BitVec 32 := 0#32
  let v1153 : BitVec 1 := Scalar.cmpi .slt v1151 c0_i32_958
  let c0_i32_959 : BitVec 32 := 0#32
  let v1154 : BitVec 1 := Scalar.cmpi .slt v1150 c0_i32_959
  let v1155 : BitVec 1 := Scalar.xori v1153 v1154
  let c0_i32_957 : BitVec 32 := 0#32
  let v1152 : BitVec 1 := Scalar.cmpi .ne v1151 c0_i32_957
  let v1156 : BitVec 1 := Scalar.andi v1155 v1152
  let v1157 : BitVec 32 := Scalar.addi v1151 v1150
  let v1158 : BitVec 32 := Scalar.select v1156 v1157 v1151
  let c1_i32_960 : BitVec 32 := 1#32
  let v1159 : BitVec 32 := Scalar.muli v1158 c1_i32_960
  let v1160 : BitVec 32 := Scalar.addi c0_i32_961 v1159
  v1160.toNat
def k0_dev71 (d0 : Dev nD) : Nat :=
  let c0_i32_972 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_964 : BitVec 32 := 9#32
  let v1163 : BitVec 32 := Scalar.addi v2 c9_i32_964
  let c32_i32_965 : BitVec 32 := 32#32
  let c0_i32_966 : BitVec 32 := 0#32
  let v1164 : BitVec 1 := Scalar.cmpi .eq c32_i32_965 c0_i32_966
  let c1_i32_967 : BitVec 32 := 1#32
  let v1165 : BitVec 32 := Scalar.select v1164 c1_i32_967 c32_i32_965
  let v1166 : BitVec 32 := Scalar.remsi v1163 v1165
  let c0_i32_969 : BitVec 32 := 0#32
  let v1168 : BitVec 1 := Scalar.cmpi .slt v1166 c0_i32_969
  let c0_i32_970 : BitVec 32 := 0#32
  let v1169 : BitVec 1 := Scalar.cmpi .slt v1165 c0_i32_970
  let v1170 : BitVec 1 := Scalar.xori v1168 v1169
  let c0_i32_968 : BitVec 32 := 0#32
  let v1167 : BitVec 1 := Scalar.cmpi .ne v1166 c0_i32_968
  let v1171 : BitVec 1 := Scalar.andi v1170 v1167
  let v1172 : BitVec 32 := Scalar.addi v1166 v1165
  let v1173 : BitVec 32 := Scalar.select v1171 v1172 v1166
  let c1_i32_971 : BitVec 32 := 1#32
  let v1174 : BitVec 32 := Scalar.muli v1173 c1_i32_971
  let v1175 : BitVec 32 := Scalar.addi c0_i32_972 v1174
  v1175.toNat
def k0_dev72 (d0 : Dev nD) : Nat :=
  let c0_i32_983 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_975 : BitVec 32 := 10#32
  let v1178 : BitVec 32 := Scalar.addi v2 c10_i32_975
  let c32_i32_976 : BitVec 32 := 32#32
  let c0_i32_977 : BitVec 32 := 0#32
  let v1179 : BitVec 1 := Scalar.cmpi .eq c32_i32_976 c0_i32_977
  let c1_i32_978 : BitVec 32 := 1#32
  let v1180 : BitVec 32 := Scalar.select v1179 c1_i32_978 c32_i32_976
  let v1181 : BitVec 32 := Scalar.remsi v1178 v1180
  let c0_i32_980 : BitVec 32 := 0#32
  let v1183 : BitVec 1 := Scalar.cmpi .slt v1181 c0_i32_980
  let c0_i32_981 : BitVec 32 := 0#32
  let v1184 : BitVec 1 := Scalar.cmpi .slt v1180 c0_i32_981
  let v1185 : BitVec 1 := Scalar.xori v1183 v1184
  let c0_i32_979 : BitVec 32 := 0#32
  let v1182 : BitVec 1 := Scalar.cmpi .ne v1181 c0_i32_979
  let v1186 : BitVec 1 := Scalar.andi v1185 v1182
  let v1187 : BitVec 32 := Scalar.addi v1181 v1180
  let v1188 : BitVec 32 := Scalar.select v1186 v1187 v1181
  let c1_i32_982 : BitVec 32 := 1#32
  let v1189 : BitVec 32 := Scalar.muli v1188 c1_i32_982
  let v1190 : BitVec 32 := Scalar.addi c0_i32_983 v1189
  v1190.toNat
def k0_dev73 (d0 : Dev nD) : Nat :=
  let c0_i32_994 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_986 : BitVec 32 := 11#32
  let v1193 : BitVec 32 := Scalar.addi v2 c11_i32_986
  let c32_i32_987 : BitVec 32 := 32#32
  let c0_i32_988 : BitVec 32 := 0#32
  let v1194 : BitVec 1 := Scalar.cmpi .eq c32_i32_987 c0_i32_988
  let c1_i32_989 : BitVec 32 := 1#32
  let v1195 : BitVec 32 := Scalar.select v1194 c1_i32_989 c32_i32_987
  let v1196 : BitVec 32 := Scalar.remsi v1193 v1195
  let c0_i32_991 : BitVec 32 := 0#32
  let v1198 : BitVec 1 := Scalar.cmpi .slt v1196 c0_i32_991
  let c0_i32_992 : BitVec 32 := 0#32
  let v1199 : BitVec 1 := Scalar.cmpi .slt v1195 c0_i32_992
  let v1200 : BitVec 1 := Scalar.xori v1198 v1199
  let c0_i32_990 : BitVec 32 := 0#32
  let v1197 : BitVec 1 := Scalar.cmpi .ne v1196 c0_i32_990
  let v1201 : BitVec 1 := Scalar.andi v1200 v1197
  let v1202 : BitVec 32 := Scalar.addi v1196 v1195
  let v1203 : BitVec 32 := Scalar.select v1201 v1202 v1196
  let c1_i32_993 : BitVec 32 := 1#32
  let v1204 : BitVec 32 := Scalar.muli v1203 c1_i32_993
  let v1205 : BitVec 32 := Scalar.addi c0_i32_994 v1204
  v1205.toNat
def k0_dev74 (d0 : Dev nD) : Nat :=
  let c0_i32_1005 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_997 : BitVec 32 := 12#32
  let v1208 : BitVec 32 := Scalar.addi v2 c12_i32_997
  let c32_i32_998 : BitVec 32 := 32#32
  let c0_i32_999 : BitVec 32 := 0#32
  let v1209 : BitVec 1 := Scalar.cmpi .eq c32_i32_998 c0_i32_999
  let c1_i32_1000 : BitVec 32 := 1#32
  let v1210 : BitVec 32 := Scalar.select v1209 c1_i32_1000 c32_i32_998
  let v1211 : BitVec 32 := Scalar.remsi v1208 v1210
  let c0_i32_1002 : BitVec 32 := 0#32
  let v1213 : BitVec 1 := Scalar.cmpi .slt v1211 c0_i32_1002
  let c0_i32_1003 : BitVec 32 := 0#32
  let v1214 : BitVec 1 := Scalar.cmpi .slt v1210 c0_i32_1003
  let v1215 : BitVec 1 := Scalar.xori v1213 v1214
  let c0_i32_1001 : BitVec 32 := 0#32
  let v1212 : BitVec 1 := Scalar.cmpi .ne v1211 c0_i32_1001
  let v1216 : BitVec 1 := Scalar.andi v1215 v1212
  let v1217 : BitVec 32 := Scalar.addi v1211 v1210
  let v1218 : BitVec 32 := Scalar.select v1216 v1217 v1211
  let c1_i32_1004 : BitVec 32 := 1#32
  let v1219 : BitVec 32 := Scalar.muli v1218 c1_i32_1004
  let v1220 : BitVec 32 := Scalar.addi c0_i32_1005 v1219
  v1220.toNat
def k0_dev75 (d0 : Dev nD) : Nat :=
  let c0_i32_1016 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1008 : BitVec 32 := 13#32
  let v1223 : BitVec 32 := Scalar.addi v2 c13_i32_1008
  let c32_i32_1009 : BitVec 32 := 32#32
  let c0_i32_1010 : BitVec 32 := 0#32
  let v1224 : BitVec 1 := Scalar.cmpi .eq c32_i32_1009 c0_i32_1010
  let c1_i32_1011 : BitVec 32 := 1#32
  let v1225 : BitVec 32 := Scalar.select v1224 c1_i32_1011 c32_i32_1009
  let v1226 : BitVec 32 := Scalar.remsi v1223 v1225
  let c0_i32_1013 : BitVec 32 := 0#32
  let v1228 : BitVec 1 := Scalar.cmpi .slt v1226 c0_i32_1013
  let c0_i32_1014 : BitVec 32 := 0#32
  let v1229 : BitVec 1 := Scalar.cmpi .slt v1225 c0_i32_1014
  let v1230 : BitVec 1 := Scalar.xori v1228 v1229
  let c0_i32_1012 : BitVec 32 := 0#32
  let v1227 : BitVec 1 := Scalar.cmpi .ne v1226 c0_i32_1012
  let v1231 : BitVec 1 := Scalar.andi v1230 v1227
  let v1232 : BitVec 32 := Scalar.addi v1226 v1225
  let v1233 : BitVec 32 := Scalar.select v1231 v1232 v1226
  let c1_i32_1015 : BitVec 32 := 1#32
  let v1234 : BitVec 32 := Scalar.muli v1233 c1_i32_1015
  let v1235 : BitVec 32 := Scalar.addi c0_i32_1016 v1234
  v1235.toNat
def k0_dev76 (d0 : Dev nD) : Nat :=
  let c0_i32_1027 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1019 : BitVec 32 := 14#32
  let v1238 : BitVec 32 := Scalar.addi v2 c14_i32_1019
  let c32_i32_1020 : BitVec 32 := 32#32
  let c0_i32_1021 : BitVec 32 := 0#32
  let v1239 : BitVec 1 := Scalar.cmpi .eq c32_i32_1020 c0_i32_1021
  let c1_i32_1022 : BitVec 32 := 1#32
  let v1240 : BitVec 32 := Scalar.select v1239 c1_i32_1022 c32_i32_1020
  let v1241 : BitVec 32 := Scalar.remsi v1238 v1240
  let c0_i32_1024 : BitVec 32 := 0#32
  let v1243 : BitVec 1 := Scalar.cmpi .slt v1241 c0_i32_1024
  let c0_i32_1025 : BitVec 32 := 0#32
  let v1244 : BitVec 1 := Scalar.cmpi .slt v1240 c0_i32_1025
  let v1245 : BitVec 1 := Scalar.xori v1243 v1244
  let c0_i32_1023 : BitVec 32 := 0#32
  let v1242 : BitVec 1 := Scalar.cmpi .ne v1241 c0_i32_1023
  let v1246 : BitVec 1 := Scalar.andi v1245 v1242
  let v1247 : BitVec 32 := Scalar.addi v1241 v1240
  let v1248 : BitVec 32 := Scalar.select v1246 v1247 v1241
  let c1_i32_1026 : BitVec 32 := 1#32
  let v1249 : BitVec 32 := Scalar.muli v1248 c1_i32_1026
  let v1250 : BitVec 32 := Scalar.addi c0_i32_1027 v1249
  v1250.toNat
def k0_dev77 (d0 : Dev nD) : Nat :=
  let c0_i32_1038 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1030 : BitVec 32 := 15#32
  let v1253 : BitVec 32 := Scalar.addi v2 c15_i32_1030
  let c32_i32_1031 : BitVec 32 := 32#32
  let c0_i32_1032 : BitVec 32 := 0#32
  let v1254 : BitVec 1 := Scalar.cmpi .eq c32_i32_1031 c0_i32_1032
  let c1_i32_1033 : BitVec 32 := 1#32
  let v1255 : BitVec 32 := Scalar.select v1254 c1_i32_1033 c32_i32_1031
  let v1256 : BitVec 32 := Scalar.remsi v1253 v1255
  let c0_i32_1035 : BitVec 32 := 0#32
  let v1258 : BitVec 1 := Scalar.cmpi .slt v1256 c0_i32_1035
  let c0_i32_1036 : BitVec 32 := 0#32
  let v1259 : BitVec 1 := Scalar.cmpi .slt v1255 c0_i32_1036
  let v1260 : BitVec 1 := Scalar.xori v1258 v1259
  let c0_i32_1034 : BitVec 32 := 0#32
  let v1257 : BitVec 1 := Scalar.cmpi .ne v1256 c0_i32_1034
  let v1261 : BitVec 1 := Scalar.andi v1260 v1257
  let v1262 : BitVec 32 := Scalar.addi v1256 v1255
  let v1263 : BitVec 32 := Scalar.select v1261 v1262 v1256
  let c1_i32_1037 : BitVec 32 := 1#32
  let v1264 : BitVec 32 := Scalar.muli v1263 c1_i32_1037
  let v1265 : BitVec 32 := Scalar.addi c0_i32_1038 v1264
  v1265.toNat
def k0_dev78 (d0 : Dev nD) : Nat :=
  let c0_i32_1049 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1041 : BitVec 32 := 16#32
  let v1268 : BitVec 32 := Scalar.addi v2 c16_i32_1041
  let c32_i32_1042 : BitVec 32 := 32#32
  let c0_i32_1043 : BitVec 32 := 0#32
  let v1269 : BitVec 1 := Scalar.cmpi .eq c32_i32_1042 c0_i32_1043
  let c1_i32_1044 : BitVec 32 := 1#32
  let v1270 : BitVec 32 := Scalar.select v1269 c1_i32_1044 c32_i32_1042
  let v1271 : BitVec 32 := Scalar.remsi v1268 v1270
  let c0_i32_1046 : BitVec 32 := 0#32
  let v1273 : BitVec 1 := Scalar.cmpi .slt v1271 c0_i32_1046
  let c0_i32_1047 : BitVec 32 := 0#32
  let v1274 : BitVec 1 := Scalar.cmpi .slt v1270 c0_i32_1047
  let v1275 : BitVec 1 := Scalar.xori v1273 v1274
  let c0_i32_1045 : BitVec 32 := 0#32
  let v1272 : BitVec 1 := Scalar.cmpi .ne v1271 c0_i32_1045
  let v1276 : BitVec 1 := Scalar.andi v1275 v1272
  let v1277 : BitVec 32 := Scalar.addi v1271 v1270
  let v1278 : BitVec 32 := Scalar.select v1276 v1277 v1271
  let c1_i32_1048 : BitVec 32 := 1#32
  let v1279 : BitVec 32 := Scalar.muli v1278 c1_i32_1048
  let v1280 : BitVec 32 := Scalar.addi c0_i32_1049 v1279
  v1280.toNat
def k0_dev79 (d0 : Dev nD) : Nat :=
  let c0_i32_1060 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1052 : BitVec 32 := 17#32
  let v1283 : BitVec 32 := Scalar.addi v2 c17_i32_1052
  let c32_i32_1053 : BitVec 32 := 32#32
  let c0_i32_1054 : BitVec 32 := 0#32
  let v1284 : BitVec 1 := Scalar.cmpi .eq c32_i32_1053 c0_i32_1054
  let c1_i32_1055 : BitVec 32 := 1#32
  let v1285 : BitVec 32 := Scalar.select v1284 c1_i32_1055 c32_i32_1053
  let v1286 : BitVec 32 := Scalar.remsi v1283 v1285
  let c0_i32_1057 : BitVec 32 := 0#32
  let v1288 : BitVec 1 := Scalar.cmpi .slt v1286 c0_i32_1057
  let c0_i32_1058 : BitVec 32 := 0#32
  let v1289 : BitVec 1 := Scalar.cmpi .slt v1285 c0_i32_1058
  let v1290 : BitVec 1 := Scalar.xori v1288 v1289
  let c0_i32_1056 : BitVec 32 := 0#32
  let v1287 : BitVec 1 := Scalar.cmpi .ne v1286 c0_i32_1056
  let v1291 : BitVec 1 := Scalar.andi v1290 v1287
  let v1292 : BitVec 32 := Scalar.addi v1286 v1285
  let v1293 : BitVec 32 := Scalar.select v1291 v1292 v1286
  let c1_i32_1059 : BitVec 32 := 1#32
  let v1294 : BitVec 32 := Scalar.muli v1293 c1_i32_1059
  let v1295 : BitVec 32 := Scalar.addi c0_i32_1060 v1294
  v1295.toNat
def k0_dev80 (d0 : Dev nD) : Nat :=
  let c0_i32_1071 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1063 : BitVec 32 := 18#32
  let v1298 : BitVec 32 := Scalar.addi v2 c18_i32_1063
  let c32_i32_1064 : BitVec 32 := 32#32
  let c0_i32_1065 : BitVec 32 := 0#32
  let v1299 : BitVec 1 := Scalar.cmpi .eq c32_i32_1064 c0_i32_1065
  let c1_i32_1066 : BitVec 32 := 1#32
  let v1300 : BitVec 32 := Scalar.select v1299 c1_i32_1066 c32_i32_1064
  let v1301 : BitVec 32 := Scalar.remsi v1298 v1300
  let c0_i32_1068 : BitVec 32 := 0#32
  let v1303 : BitVec 1 := Scalar.cmpi .slt v1301 c0_i32_1068
  let c0_i32_1069 : BitVec 32 := 0#32
  let v1304 : BitVec 1 := Scalar.cmpi .slt v1300 c0_i32_1069
  let v1305 : BitVec 1 := Scalar.xori v1303 v1304
  let c0_i32_1067 : BitVec 32 := 0#32
  let v1302 : BitVec 1 := Scalar.cmpi .ne v1301 c0_i32_1067
  let v1306 : BitVec 1 := Scalar.andi v1305 v1302
  let v1307 : BitVec 32 := Scalar.addi v1301 v1300
  let v1308 : BitVec 32 := Scalar.select v1306 v1307 v1301
  let c1_i32_1070 : BitVec 32 := 1#32
  let v1309 : BitVec 32 := Scalar.muli v1308 c1_i32_1070
  let v1310 : BitVec 32 := Scalar.addi c0_i32_1071 v1309
  v1310.toNat
def k0_dev81 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1074 : BitVec 32 := 19#32
  let v1313 : BitVec 32 := Scalar.addi v2 c19_i32_1074
  let c32_i32_1075 : BitVec 32 := 32#32
  let c0_i32_1076 : BitVec 32 := 0#32
  let v1314 : BitVec 1 := Scalar.cmpi .eq c32_i32_1075 c0_i32_1076
  let c1_i32_1077 : BitVec 32 := 1#32
  let v1315 : BitVec 32 := Scalar.select v1314 c1_i32_1077 c32_i32_1075
  let v1316 : BitVec 32 := Scalar.remsi v1313 v1315
  let c0_i32_1079 : BitVec 32 := 0#32
  let v1318 : BitVec 1 := Scalar.cmpi .slt v1316 c0_i32_1079
  let c0_i32_1080 : BitVec 32 := 0#32
  let v1319 : BitVec 1 := Scalar.cmpi .slt v1315 c0_i32_1080
  let v1320 : BitVec 1 := Scalar.xori v1318 v1319
  let c0_i32_1078 : BitVec 32 := 0#32
  let v1317 : BitVec 1 := Scalar.cmpi .ne v1316 c0_i32_1078
  let v1321 : BitVec 1 := Scalar.andi v1320 v1317
  let v1322 : BitVec 32 := Scalar.addi v1316 v1315
  let v1323 : BitVec 32 := Scalar.select v1321 v1322 v1316
  let c1_i32_1081 : BitVec 32 := 1#32
  let v1324 : BitVec 32 := Scalar.muli v1323 c1_i32_1081
  let v1325 : BitVec 32 := Scalar.addi c0_i32_1082 v1324
  v1325.toNat
def k0_dev82 (d0 : Dev nD) : Nat :=
  let c0_i32_1093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1085 : BitVec 32 := 20#32
  let v1328 : BitVec 32 := Scalar.addi v2 c20_i32_1085
  let c32_i32_1086 : BitVec 32 := 32#32
  let c0_i32_1087 : BitVec 32 := 0#32
  let v1329 : BitVec 1 := Scalar.cmpi .eq c32_i32_1086 c0_i32_1087
  let c1_i32_1088 : BitVec 32 := 1#32
  let v1330 : BitVec 32 := Scalar.select v1329 c1_i32_1088 c32_i32_1086
  let v1331 : BitVec 32 := Scalar.remsi v1328 v1330
  let c0_i32_1090 : BitVec 32 := 0#32
  let v1333 : BitVec 1 := Scalar.cmpi .slt v1331 c0_i32_1090
  let c0_i32_1091 : BitVec 32 := 0#32
  let v1334 : BitVec 1 := Scalar.cmpi .slt v1330 c0_i32_1091
  let v1335 : BitVec 1 := Scalar.xori v1333 v1334
  let c0_i32_1089 : BitVec 32 := 0#32
  let v1332 : BitVec 1 := Scalar.cmpi .ne v1331 c0_i32_1089
  let v1336 : BitVec 1 := Scalar.andi v1335 v1332
  let v1337 : BitVec 32 := Scalar.addi v1331 v1330
  let v1338 : BitVec 32 := Scalar.select v1336 v1337 v1331
  let c1_i32_1092 : BitVec 32 := 1#32
  let v1339 : BitVec 32 := Scalar.muli v1338 c1_i32_1092
  let v1340 : BitVec 32 := Scalar.addi c0_i32_1093 v1339
  v1340.toNat
def k0_dev83 (d0 : Dev nD) : Nat :=
  let c0_i32_1104 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1096 : BitVec 32 := 21#32
  let v1343 : BitVec 32 := Scalar.addi v2 c21_i32_1096
  let c32_i32_1097 : BitVec 32 := 32#32
  let c0_i32_1098 : BitVec 32 := 0#32
  let v1344 : BitVec 1 := Scalar.cmpi .eq c32_i32_1097 c0_i32_1098
  let c1_i32_1099 : BitVec 32 := 1#32
  let v1345 : BitVec 32 := Scalar.select v1344 c1_i32_1099 c32_i32_1097
  let v1346 : BitVec 32 := Scalar.remsi v1343 v1345
  let c0_i32_1101 : BitVec 32 := 0#32
  let v1348 : BitVec 1 := Scalar.cmpi .slt v1346 c0_i32_1101
  let c0_i32_1102 : BitVec 32 := 0#32
  let v1349 : BitVec 1 := Scalar.cmpi .slt v1345 c0_i32_1102
  let v1350 : BitVec 1 := Scalar.xori v1348 v1349
  let c0_i32_1100 : BitVec 32 := 0#32
  let v1347 : BitVec 1 := Scalar.cmpi .ne v1346 c0_i32_1100
  let v1351 : BitVec 1 := Scalar.andi v1350 v1347
  let v1352 : BitVec 32 := Scalar.addi v1346 v1345
  let v1353 : BitVec 32 := Scalar.select v1351 v1352 v1346
  let c1_i32_1103 : BitVec 32 := 1#32
  let v1354 : BitVec 32 := Scalar.muli v1353 c1_i32_1103
  let v1355 : BitVec 32 := Scalar.addi c0_i32_1104 v1354
  v1355.toNat
def k0_dev84 (d0 : Dev nD) : Nat :=
  let c0_i32_1115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1107 : BitVec 32 := 22#32
  let v1358 : BitVec 32 := Scalar.addi v2 c22_i32_1107
  let c32_i32_1108 : BitVec 32 := 32#32
  let c0_i32_1109 : BitVec 32 := 0#32
  let v1359 : BitVec 1 := Scalar.cmpi .eq c32_i32_1108 c0_i32_1109
  let c1_i32_1110 : BitVec 32 := 1#32
  let v1360 : BitVec 32 := Scalar.select v1359 c1_i32_1110 c32_i32_1108
  let v1361 : BitVec 32 := Scalar.remsi v1358 v1360
  let c0_i32_1112 : BitVec 32 := 0#32
  let v1363 : BitVec 1 := Scalar.cmpi .slt v1361 c0_i32_1112
  let c0_i32_1113 : BitVec 32 := 0#32
  let v1364 : BitVec 1 := Scalar.cmpi .slt v1360 c0_i32_1113
  let v1365 : BitVec 1 := Scalar.xori v1363 v1364
  let c0_i32_1111 : BitVec 32 := 0#32
  let v1362 : BitVec 1 := Scalar.cmpi .ne v1361 c0_i32_1111
  let v1366 : BitVec 1 := Scalar.andi v1365 v1362
  let v1367 : BitVec 32 := Scalar.addi v1361 v1360
  let v1368 : BitVec 32 := Scalar.select v1366 v1367 v1361
  let c1_i32_1114 : BitVec 32 := 1#32
  let v1369 : BitVec 32 := Scalar.muli v1368 c1_i32_1114
  let v1370 : BitVec 32 := Scalar.addi c0_i32_1115 v1369
  v1370.toNat
def k0_dev85 (d0 : Dev nD) : Nat :=
  let c0_i32_1126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1118 : BitVec 32 := 23#32
  let v1373 : BitVec 32 := Scalar.addi v2 c23_i32_1118
  let c32_i32_1119 : BitVec 32 := 32#32
  let c0_i32_1120 : BitVec 32 := 0#32
  let v1374 : BitVec 1 := Scalar.cmpi .eq c32_i32_1119 c0_i32_1120
  let c1_i32_1121 : BitVec 32 := 1#32
  let v1375 : BitVec 32 := Scalar.select v1374 c1_i32_1121 c32_i32_1119
  let v1376 : BitVec 32 := Scalar.remsi v1373 v1375
  let c0_i32_1123 : BitVec 32 := 0#32
  let v1378 : BitVec 1 := Scalar.cmpi .slt v1376 c0_i32_1123
  let c0_i32_1124 : BitVec 32 := 0#32
  let v1379 : BitVec 1 := Scalar.cmpi .slt v1375 c0_i32_1124
  let v1380 : BitVec 1 := Scalar.xori v1378 v1379
  let c0_i32_1122 : BitVec 32 := 0#32
  let v1377 : BitVec 1 := Scalar.cmpi .ne v1376 c0_i32_1122
  let v1381 : BitVec 1 := Scalar.andi v1380 v1377
  let v1382 : BitVec 32 := Scalar.addi v1376 v1375
  let v1383 : BitVec 32 := Scalar.select v1381 v1382 v1376
  let c1_i32_1125 : BitVec 32 := 1#32
  let v1384 : BitVec 32 := Scalar.muli v1383 c1_i32_1125
  let v1385 : BitVec 32 := Scalar.addi c0_i32_1126 v1384
  v1385.toNat
def k0_dev86 (d0 : Dev nD) : Nat :=
  let c0_i32_1137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1129 : BitVec 32 := 24#32
  let v1388 : BitVec 32 := Scalar.addi v2 c24_i32_1129
  let c32_i32_1130 : BitVec 32 := 32#32
  let c0_i32_1131 : BitVec 32 := 0#32
  let v1389 : BitVec 1 := Scalar.cmpi .eq c32_i32_1130 c0_i32_1131
  let c1_i32_1132 : BitVec 32 := 1#32
  let v1390 : BitVec 32 := Scalar.select v1389 c1_i32_1132 c32_i32_1130
  let v1391 : BitVec 32 := Scalar.remsi v1388 v1390
  let c0_i32_1134 : BitVec 32 := 0#32
  let v1393 : BitVec 1 := Scalar.cmpi .slt v1391 c0_i32_1134
  let c0_i32_1135 : BitVec 32 := 0#32
  let v1394 : BitVec 1 := Scalar.cmpi .slt v1390 c0_i32_1135
  let v1395 : BitVec 1 := Scalar.xori v1393 v1394
  let c0_i32_1133 : BitVec 32 := 0#32
  let v1392 : BitVec 1 := Scalar.cmpi .ne v1391 c0_i32_1133
  let v1396 : BitVec 1 := Scalar.andi v1395 v1392
  let v1397 : BitVec 32 := Scalar.addi v1391 v1390
  let v1398 : BitVec 32 := Scalar.select v1396 v1397 v1391
  let c1_i32_1136 : BitVec 32 := 1#32
  let v1399 : BitVec 32 := Scalar.muli v1398 c1_i32_1136
  let v1400 : BitVec 32 := Scalar.addi c0_i32_1137 v1399
  v1400.toNat
def k0_dev87 (d0 : Dev nD) : Nat :=
  let c0_i32_1148 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1140 : BitVec 32 := 25#32
  let v1403 : BitVec 32 := Scalar.addi v2 c25_i32_1140
  let c32_i32_1141 : BitVec 32 := 32#32
  let c0_i32_1142 : BitVec 32 := 0#32
  let v1404 : BitVec 1 := Scalar.cmpi .eq c32_i32_1141 c0_i32_1142
  let c1_i32_1143 : BitVec 32 := 1#32
  let v1405 : BitVec 32 := Scalar.select v1404 c1_i32_1143 c32_i32_1141
  let v1406 : BitVec 32 := Scalar.remsi v1403 v1405
  let c0_i32_1145 : BitVec 32 := 0#32
  let v1408 : BitVec 1 := Scalar.cmpi .slt v1406 c0_i32_1145
  let c0_i32_1146 : BitVec 32 := 0#32
  let v1409 : BitVec 1 := Scalar.cmpi .slt v1405 c0_i32_1146
  let v1410 : BitVec 1 := Scalar.xori v1408 v1409
  let c0_i32_1144 : BitVec 32 := 0#32
  let v1407 : BitVec 1 := Scalar.cmpi .ne v1406 c0_i32_1144
  let v1411 : BitVec 1 := Scalar.andi v1410 v1407
  let v1412 : BitVec 32 := Scalar.addi v1406 v1405
  let v1413 : BitVec 32 := Scalar.select v1411 v1412 v1406
  let c1_i32_1147 : BitVec 32 := 1#32
  let v1414 : BitVec 32 := Scalar.muli v1413 c1_i32_1147
  let v1415 : BitVec 32 := Scalar.addi c0_i32_1148 v1414
  v1415.toNat
def k0_dev88 (d0 : Dev nD) : Nat :=
  let c0_i32_1159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1151 : BitVec 32 := 26#32
  let v1418 : BitVec 32 := Scalar.addi v2 c26_i32_1151
  let c32_i32_1152 : BitVec 32 := 32#32
  let c0_i32_1153 : BitVec 32 := 0#32
  let v1419 : BitVec 1 := Scalar.cmpi .eq c32_i32_1152 c0_i32_1153
  let c1_i32_1154 : BitVec 32 := 1#32
  let v1420 : BitVec 32 := Scalar.select v1419 c1_i32_1154 c32_i32_1152
  let v1421 : BitVec 32 := Scalar.remsi v1418 v1420
  let c0_i32_1156 : BitVec 32 := 0#32
  let v1423 : BitVec 1 := Scalar.cmpi .slt v1421 c0_i32_1156
  let c0_i32_1157 : BitVec 32 := 0#32
  let v1424 : BitVec 1 := Scalar.cmpi .slt v1420 c0_i32_1157
  let v1425 : BitVec 1 := Scalar.xori v1423 v1424
  let c0_i32_1155 : BitVec 32 := 0#32
  let v1422 : BitVec 1 := Scalar.cmpi .ne v1421 c0_i32_1155
  let v1426 : BitVec 1 := Scalar.andi v1425 v1422
  let v1427 : BitVec 32 := Scalar.addi v1421 v1420
  let v1428 : BitVec 32 := Scalar.select v1426 v1427 v1421
  let c1_i32_1158 : BitVec 32 := 1#32
  let v1429 : BitVec 32 := Scalar.muli v1428 c1_i32_1158
  let v1430 : BitVec 32 := Scalar.addi c0_i32_1159 v1429
  v1430.toNat
def k0_dev89 (d0 : Dev nD) : Nat :=
  let c0_i32_1170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1162 : BitVec 32 := 27#32
  let v1433 : BitVec 32 := Scalar.addi v2 c27_i32_1162
  let c32_i32_1163 : BitVec 32 := 32#32
  let c0_i32_1164 : BitVec 32 := 0#32
  let v1434 : BitVec 1 := Scalar.cmpi .eq c32_i32_1163 c0_i32_1164
  let c1_i32_1165 : BitVec 32 := 1#32
  let v1435 : BitVec 32 := Scalar.select v1434 c1_i32_1165 c32_i32_1163
  let v1436 : BitVec 32 := Scalar.remsi v1433 v1435
  let c0_i32_1167 : BitVec 32 := 0#32
  let v1438 : BitVec 1 := Scalar.cmpi .slt v1436 c0_i32_1167
  let c0_i32_1168 : BitVec 32 := 0#32
  let v1439 : BitVec 1 := Scalar.cmpi .slt v1435 c0_i32_1168
  let v1440 : BitVec 1 := Scalar.xori v1438 v1439
  let c0_i32_1166 : BitVec 32 := 0#32
  let v1437 : BitVec 1 := Scalar.cmpi .ne v1436 c0_i32_1166
  let v1441 : BitVec 1 := Scalar.andi v1440 v1437
  let v1442 : BitVec 32 := Scalar.addi v1436 v1435
  let v1443 : BitVec 32 := Scalar.select v1441 v1442 v1436
  let c1_i32_1169 : BitVec 32 := 1#32
  let v1444 : BitVec 32 := Scalar.muli v1443 c1_i32_1169
  let v1445 : BitVec 32 := Scalar.addi c0_i32_1170 v1444
  v1445.toNat
def k0_dev90 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1173 : BitVec 32 := 28#32
  let v1448 : BitVec 32 := Scalar.addi v2 c28_i32_1173
  let c32_i32_1174 : BitVec 32 := 32#32
  let c0_i32_1175 : BitVec 32 := 0#32
  let v1449 : BitVec 1 := Scalar.cmpi .eq c32_i32_1174 c0_i32_1175
  let c1_i32_1176 : BitVec 32 := 1#32
  let v1450 : BitVec 32 := Scalar.select v1449 c1_i32_1176 c32_i32_1174
  let v1451 : BitVec 32 := Scalar.remsi v1448 v1450
  let c0_i32_1178 : BitVec 32 := 0#32
  let v1453 : BitVec 1 := Scalar.cmpi .slt v1451 c0_i32_1178
  let c0_i32_1179 : BitVec 32 := 0#32
  let v1454 : BitVec 1 := Scalar.cmpi .slt v1450 c0_i32_1179
  let v1455 : BitVec 1 := Scalar.xori v1453 v1454
  let c0_i32_1177 : BitVec 32 := 0#32
  let v1452 : BitVec 1 := Scalar.cmpi .ne v1451 c0_i32_1177
  let v1456 : BitVec 1 := Scalar.andi v1455 v1452
  let v1457 : BitVec 32 := Scalar.addi v1451 v1450
  let v1458 : BitVec 32 := Scalar.select v1456 v1457 v1451
  let c1_i32_1180 : BitVec 32 := 1#32
  let v1459 : BitVec 32 := Scalar.muli v1458 c1_i32_1180
  let v1460 : BitVec 32 := Scalar.addi c0_i32_1181 v1459
  v1460.toNat
def k0_dev91 (d0 : Dev nD) : Nat :=
  let c0_i32_1192 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1184 : BitVec 32 := 29#32
  let v1463 : BitVec 32 := Scalar.addi v2 c29_i32_1184
  let c32_i32_1185 : BitVec 32 := 32#32
  let c0_i32_1186 : BitVec 32 := 0#32
  let v1464 : BitVec 1 := Scalar.cmpi .eq c32_i32_1185 c0_i32_1186
  let c1_i32_1187 : BitVec 32 := 1#32
  let v1465 : BitVec 32 := Scalar.select v1464 c1_i32_1187 c32_i32_1185
  let v1466 : BitVec 32 := Scalar.remsi v1463 v1465
  let c0_i32_1189 : BitVec 32 := 0#32
  let v1468 : BitVec 1 := Scalar.cmpi .slt v1466 c0_i32_1189
  let c0_i32_1190 : BitVec 32 := 0#32
  let v1469 : BitVec 1 := Scalar.cmpi .slt v1465 c0_i32_1190
  let v1470 : BitVec 1 := Scalar.xori v1468 v1469
  let c0_i32_1188 : BitVec 32 := 0#32
  let v1467 : BitVec 1 := Scalar.cmpi .ne v1466 c0_i32_1188
  let v1471 : BitVec 1 := Scalar.andi v1470 v1467
  let v1472 : BitVec 32 := Scalar.addi v1466 v1465
  let v1473 : BitVec 32 := Scalar.select v1471 v1472 v1466
  let c1_i32_1191 : BitVec 32 := 1#32
  let v1474 : BitVec 32 := Scalar.muli v1473 c1_i32_1191
  let v1475 : BitVec 32 := Scalar.addi c0_i32_1192 v1474
  v1475.toNat
def k0_dev92 (d0 : Dev nD) : Nat :=
  let c0_i32_1203 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1195 : BitVec 32 := 30#32
  let v1478 : BitVec 32 := Scalar.addi v2 c30_i32_1195
  let c32_i32_1196 : BitVec 32 := 32#32
  let c0_i32_1197 : BitVec 32 := 0#32
  let v1479 : BitVec 1 := Scalar.cmpi .eq c32_i32_1196 c0_i32_1197
  let c1_i32_1198 : BitVec 32 := 1#32
  let v1480 : BitVec 32 := Scalar.select v1479 c1_i32_1198 c32_i32_1196
  let v1481 : BitVec 32 := Scalar.remsi v1478 v1480
  let c0_i32_1200 : BitVec 32 := 0#32
  let v1483 : BitVec 1 := Scalar.cmpi .slt v1481 c0_i32_1200
  let c0_i32_1201 : BitVec 32 := 0#32
  let v1484 : BitVec 1 := Scalar.cmpi .slt v1480 c0_i32_1201
  let v1485 : BitVec 1 := Scalar.xori v1483 v1484
  let c0_i32_1199 : BitVec 32 := 0#32
  let v1482 : BitVec 1 := Scalar.cmpi .ne v1481 c0_i32_1199
  let v1486 : BitVec 1 := Scalar.andi v1485 v1482
  let v1487 : BitVec 32 := Scalar.addi v1481 v1480
  let v1488 : BitVec 32 := Scalar.select v1486 v1487 v1481
  let c1_i32_1202 : BitVec 32 := 1#32
  let v1489 : BitVec 32 := Scalar.muli v1488 c1_i32_1202
  let v1490 : BitVec 32 := Scalar.addi c0_i32_1203 v1489
  v1490.toNat
def k0_dev93 (d0 : Dev nD) : Nat :=
  let c0_i32_1214 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1206 : BitVec 32 := 31#32
  let v1493 : BitVec 32 := Scalar.addi v2 c31_i32_1206
  let c32_i32_1207 : BitVec 32 := 32#32
  let c0_i32_1208 : BitVec 32 := 0#32
  let v1494 : BitVec 1 := Scalar.cmpi .eq c32_i32_1207 c0_i32_1208
  let c1_i32_1209 : BitVec 32 := 1#32
  let v1495 : BitVec 32 := Scalar.select v1494 c1_i32_1209 c32_i32_1207
  let v1496 : BitVec 32 := Scalar.remsi v1493 v1495
  let c0_i32_1211 : BitVec 32 := 0#32
  let v1498 : BitVec 1 := Scalar.cmpi .slt v1496 c0_i32_1211
  let c0_i32_1212 : BitVec 32 := 0#32
  let v1499 : BitVec 1 := Scalar.cmpi .slt v1495 c0_i32_1212
  let v1500 : BitVec 1 := Scalar.xori v1498 v1499
  let c0_i32_1210 : BitVec 32 := 0#32
  let v1497 : BitVec 1 := Scalar.cmpi .ne v1496 c0_i32_1210
  let v1501 : BitVec 1 := Scalar.andi v1500 v1497
  let v1502 : BitVec 32 := Scalar.addi v1496 v1495
  let v1503 : BitVec 32 := Scalar.select v1501 v1502 v1496
  let c1_i32_1213 : BitVec 32 := 1#32
  let v1504 : BitVec 32 := Scalar.muli v1503 c1_i32_1213
  let v1505 : BitVec 32 := Scalar.addi c0_i32_1214 v1504
  v1505.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S131072x512 : Shape := ⟨2, ![131072, 512]⟩
abbrev S1024 : Shape := ⟨1, ![1024]⟩
abbrev S_ : Shape := ⟨0, ![]⟩
abbrev S1024x1 : Shape := ⟨2, ![1024, 1]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S131072x512, .f32⟩
  | .hbm, ⟨1, _⟩ => ⟨S1024, .i32⟩
  | .hbm, ⟨2, _⟩ => ⟨S_, .i32⟩
  | .hbm, ⟨3, _⟩ => ⟨S1024, .i32⟩
  | .hbm, ⟨4, _⟩ => ⟨S1024, .i1⟩
  | .hbm, ⟨5, _⟩ => ⟨S_, .i32⟩
  | .hbm, ⟨6, _⟩ => ⟨S1024, .i32⟩
  | .hbm, ⟨7, _⟩ => ⟨S1024, .i32⟩
  | .hbm, ⟨8, _⟩ => ⟨S1024, .i32⟩
  | .hbm, ⟨9, _⟩ => ⟨S1024x1, .i32⟩
  | .hbm, ⟨10, _⟩ => ⟨S1024x512, .f32⟩
  | _, _ => ⟨S131072x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.KernelIdeal.Loop.lean ====
/-
  The kernel function of `KernelIdeal.lean` as a short program over LISTS of operations: the thirty-one signals, the two families of
  thirty-one remote copies and the three families of thirty-one waits, each family a `chain` of operations that differ only in the offset
  to the peer. `body_eq_loop` says that the printed kernel function is this program.
-/
module

public import proofs.«01_k».proof.Proof.Gen.KernelIdeal.Skeleton
public import proofs.«01_k».proof.Proof.Gen.KernelIdeal.Points

@[expose] public section

noncomputable section

namespace Cert.KernelIdeal.Own

open Idealize.ShloMosaic Idealize.ShloMosaic.TcCoe
open Idealize.SL.Sem
open Cert.KernelIdeal.Gen

variable {F : FTy → Type} [FloatOps F]

/-- The effects of a TensorCore of this program. -/
abbrev Eff (F : FTy → Type) := TpuEff nD τ sig (Elt F) Λ₀ .tc

/-- The operations of a list, in order, then `k`. -/
def chain (l : List (Eff F PUnit)) (k : Prog (Eff F) PUnit) : Prog (Eff F) PUnit := l.foldr (fun e k => .op e fun _ => k) k

/-- The device `i + 1` places after `c` around the ring of thirty-two. -/
def peer (c : Dev nD) (i : Fin 31) : Dev nD := ⟨(c.val + (i.val + 1)) % 32, Nat.mod_lt _ (by decide)⟩

/-- Every peer of `c` with its offset. -/
def peers (c : Dev nD) : List (Dev nD × Fin 31) := (List.finRange 31).map fun i => (peer c i, i)

/-- The barrier semaphore. -/
abbrev barSem : Sem sig := sig.barrier 0 rfl

section Memrefs

variable (a0 : Memref sig .tc .vmem S1024x512 .bf16) (h0 : a0.IsWhole) (a1 : Memref sig .tc .vmem S1024x512 .f32)
  (a2 : Memref sig .tc .vmem S31x32x512 .bf16) (h2 : a2.IsWhole) (a3 : Memref sig .tc .vmem S1024x512 .bf16) (h3 : a3.IsWhole)
  (s4 s5 s6 s7 : DmaSem sig)

/-- The rows of a 1024-row array that belong to the peer at offset `i + 1`, as the kernel addresses them. -/
abbrev rowM (a : Memref sig .tc .vmem S1024x512 .bf16) (c : Dev nD) (i : Fin 31) : Memref sig .tc .vmem S32x512 .bf16 :=
  a.slice (Rect.unit (s := S1024x512) (k0_off1 c (BitVec.ofNat 32 (1 + i.val))) S32x512.size (k0_off1_inb c i)) (fun _ => rfl)

/-- The rows that belong to the device itself. -/
abbrev ownM (a : Memref sig .tc .vmem S1024x512 .bf16) (c : Dev nD) : Memref sig .tc .vmem S32x512 .bf16 :=
  a.slice (Rect.unit (s := S1024x512) (k0_off3 c) S32x512.size (k0_off3_inb c)) (fun _ => rfl)

theorem slot_inb : ∀ (i : Fin 31) (x : Fin 3), (![i.val, 0, 0] : Fin 3 → Nat) x + S1x32x512.size x ≤ S31x32x512.size x := by decide +kernel
theorem slot_words : ∀ i : Fin 31, (Rect.unit (s := S31x32x512) ![i.val, 0, 0] S1x32x512.size (slot_inb i)).WholeWords (EltTy.packing .bf16) := by decide +kernel

/-- Slot `i` of the landing array. -/
abbrev slotM (a : Memref sig .tc .vmem S31x32x512 .bf16) (i : Fin 31) : Memref sig .tc .vmem S32x512 .bf16 :=
  (a.slice (Rect.unit (s := S31x32x512) ![i.val, 0, 0] S1x32x512.size (slot_inb i)) (fun _ => rfl)).squeeze S32x512 squeezes_S1x32x512_S32x512

/-- The signal to device `d`'s barrier semaphore. -/
def sigOp (d : Dev nD) : Eff F PUnit := .semSignal (d, .tc) barSem (1#32 : BitVec 32).toInt

/-- The first copy to peer `p.1` at offset `p.2`: its rows of the partial array into slot `p.2` of its landing array. -/
def copy1 (c : Dev nD) (p : Dev nD × Fin 31) : Eff F PUnit :=
  .enqueueDma (rowM a0 c p.2) (.remote (Dev.tc p.1) (slotM a2 p.2) (.dma s4)) (.dma s5)
    (h0.wordExact_slice rfl _ (k0_off1_wordsbf16 c p.2)) ((h2.wordExact_slice rfl _ (slot_words p.2)).reshape _ _) ⟨⟨rfl, Or.inl rfl⟩, trivial⟩

/-- The wait for one first copy to have been sent. -/
def sent1 (c : Dev nD) (i : Fin 31) : Eff F PUnit :=
  .waitDma2 s4 (slotM a2 i) (rowM a0 c i) ((h2.wordExact_slice rfl _ (slot_words i)).reshape _ _) (h0.wordExact_slice rfl _ (k0_off1_wordsbf16 c i))

/-- The second copy to device `d`: the device's own rows of the gathered array into the same rows of `d`'s. -/
def copy2 (c d : Dev nD) : Eff F PUnit :=
  .enqueueDma (ownM a3 c) (.remote (Dev.tc d) (ownM a3 c) (.dma s6)) (.dma s7)
    (h3.wordExact_slice rfl _ (k0_off3_wordsbf16 c)) (h3.wordExact_slice rfl _ (k0_off3_wordsbf16 c)) ⟨⟨rfl, Or.inl rfl⟩, trivial⟩

/-- The wait for one second copy to have landed. -/
def landed2 (c : Dev nD) (i : Fin 31) : Eff F PUnit :=
  .waitDma2 s7 (rowM a3 c i) (rowM a3 c i) (h3.wordExact_slice rfl _ (k0_off1_wordsbf16 c i)) (h3.wordExact_slice rfl _ (k0_off1_wordsbf16 c i))

/-- The wait for one second copy to have been sent. -/
def sent2 (c : Dev nD) : Eff F PUnit :=
  .waitDma2 s6 (ownM a3 c) (ownM a3 c) (h3.wordExact_slice rfl _ (k0_off3_wordsbf16 c)) (h3.wordExact_slice rfl _ (k0_off3_wordsbf16 c))

/-- The kernel function over given lists of peers: `l₁` for the signals, `l₂` for the first copies, `l₃` for the second copies. -/
def loopOver (l₁ l₂ l₃ : Dev nD → List (Dev nD × Fin 31)) : Prog (Eff F) PUnit :=
  .op .deviceId fun c =>
  chain ((l₁ c).map fun p => sigOp p.1) <|
  .op (.semWait barSem (31#32 : BitVec 32).toInt) fun _ =>
  chain ((l₂ c).map fun p => copy1 a0 h0 a2 h2 s4 s5 c p) <|
  .op (.waitDma2 s5 a2 a2 h2.wordExact h2.wordExact) fun _ =>
  chain ((List.finRange 31).map fun i => sent1 a0 h0 a2 h2 s4 c i) <|
  .op (.load a0 (Rect.unit (s := S1024x512) (k0_off2 c) S32x512.size (k0_off2_inb c)).toLoadRect (View.loadsAt_vmem h_S32x512)) fun v1 =>
  .op (.load a2 (Rect.unit (s := S31x32x512) ![0, 0, 0] S31x32x512.size inb_S31x32x512_S31x32x512_0_0_0).toLoadRect (View.loadsAt_vmem h_S31x32x512)) fun v2 =>
  .op (.load a3 (Rect.unit (s := S1024x512) (k0_off2 c) S32x512.size (k0_off2_inb c)).toLoadRect (View.loadsAt_vmem h_S32x512)) fun _ =>
  .op (.store a3 (Rect.unit (s := S1024x512) (k0_off2 c) S32x512.size (k0_off2_inb c)) (k0_pay2 (k0_pay1 v1) v2) Finset.univ
    (View.stores_vmem h_S32x512 (h3.storeExact_slice rfl _ (k0_off2_packedbf16 c)) (fun _ => rfl)) (.inl rfl)) fun _ =>
  chain ((l₃ c).map fun p => copy2 a3 h3 s6 s7 c p.1) <|
  chain ((List.finRange 31).map fun i => landed2 a3 h3 s7 c i) <|
  .op (.load a3 (Rect.unit (s := S1024x512) ![0, 0] S1024x512.size inb_S1024x512_S1024x512_0_0).toLoadRect (View.loadsAt_vmem h_S1024x512)) fun v3 =>
  .op (.load a1 (Rect.unit (s := S1024x512) ![0, 0] S1024x512.size inb_S1024x512_S1024x512_0_0).toLoadRect (View.loadsAt_vmem h_S1024x512)) fun _ =>
  .op (.store a1 (Rect.unit (s := S1024x512) ![0, 0] S1024x512.size inb_S1024x512_S1024x512_0_0) (k0_pay3 v3) Finset.univ
    (View.stores_vmem_bits_univ h_S1024x512 rfl) (.inl rfl)) fun _ =>
  chain ((List.finRange 31).map fun _ => sent2 a3 h3 s6 c) <|
  .ret ⟨⟩

end Memrefs

/-- The peers as the signals address them. -/
def sigDevs (c : Dev nD) : List (Dev nD × Fin 31) :=
  [(⟨k0_dev1 c, k0_dev1_lt c⟩, 0), (⟨k0_dev2 c, k0_dev2_lt c⟩, 1), (⟨k0_dev3 c, k0_dev3_lt c⟩, 2), (⟨k0_dev4 c, k0_dev4_lt c⟩, 3),
   (⟨k0_dev5 c, k0_dev5_lt c⟩, 4), (⟨k0_dev6 c, k0_dev6_lt c⟩, 5), (⟨k0_dev7 c, k0_dev7_lt c⟩, 6), (⟨k0_dev8 c, k0_dev8_lt c⟩, 7),
   (⟨k0_dev9 c, k0_dev9_lt c⟩, 8), (⟨k0_dev10 c, k0_dev10_lt c⟩, 9), (⟨k0_dev11 c, k0_dev11_lt c⟩, 10), (⟨k0_dev12 c, k0_dev12_lt c⟩, 11),
   (⟨k0_dev13 c, k0_dev13_lt c⟩, 12), (⟨k0_dev14 c, k0_dev14_lt c⟩, 13), (⟨k0_dev15 c, k0_dev15_lt c⟩, 14), (⟨k0_dev16 c, k0_dev16_lt c⟩, 15),
   (⟨k0_dev17 c, k0_dev17_lt c⟩, 16), (⟨k0_dev18 c, k0_dev18_lt c⟩, 17), (⟨k0_dev19 c, k0_dev19_lt c⟩, 18), (⟨k0_dev20 c, k0_dev20_lt c⟩, 19),
   (⟨k0_dev21 c, k0_dev21_lt c⟩, 20), (⟨k0_dev22 c, k0_dev22_lt c⟩, 21), (⟨k0_dev23 c, k0_dev23_lt c⟩, 22), (⟨k0_dev24 c, k0_dev24_lt c⟩, 23),
   (⟨k0_dev25 c, k0_dev25_lt c⟩, 24), (⟨k0_dev26 c, k0_dev26_lt c⟩, 25), (⟨k0_dev27 c, k0_dev27_lt c⟩, 26), (⟨k0_dev28 c, k0_dev28_lt c⟩, 27),
   (⟨k0_dev29 c, k0_dev29_lt c⟩, 28), (⟨k0_dev30 c, k0_dev30_lt c⟩, 29), (⟨k0_dev31 c, k0_dev31_lt c⟩, 30)]
/-- The peers as the first copies address them. -/
def copy1Devs (c : Dev nD) : List (Dev nD × Fin 31) :=
  [(⟨k0_dev32 c, k0_dev32_lt c⟩, 0), (⟨k0_dev33 c, k0_dev33_lt c⟩, 1), (⟨k0_dev34 c, k0_dev34_lt c⟩, 2), (⟨k0_dev35 c, k0_dev35_lt c⟩, 3),
   (⟨k0_dev36 c, k0_dev36_lt c⟩, 4), (⟨k0_dev37 c, k0_dev37_lt c⟩, 5), (⟨k0_dev38 c, k0_dev38_lt c⟩, 6), (⟨k0_dev39 c, k0_dev39_lt c⟩, 7),
   (⟨k0_dev40 c, k0_dev40_lt c⟩, 8), (⟨k0_dev41 c, k0_dev41_lt c⟩, 9), (⟨k0_dev42 c, k0_dev42_lt c⟩, 10), (⟨k0_dev43 c, k0_dev43_lt c⟩, 11),
   (⟨k0_dev44 c, k0_dev44_lt c⟩, 12), (⟨k0_dev45 c, k0_dev45_lt c⟩, 13), (⟨k0_dev46 c, k0_dev46_lt c⟩, 14), (⟨k0_dev47 c, k0_dev47_lt c⟩, 15),
   (⟨k0_dev48 c, k0_dev48_lt c⟩, 16), (⟨k0_dev49 c, k0_dev49_lt c⟩, 17), (⟨k0_dev50 c, k0_dev50_lt c⟩, 18), (⟨k0_dev51 c, k0_dev51_lt c⟩, 19),
   (⟨k0_dev52 c, k0_dev52_lt c⟩, 20), (⟨k0_dev53 c, k0_dev53_lt c⟩, 21), (⟨k0_dev54 c, k0_dev54_lt c⟩, 22), (⟨k0_dev55 c, k0_dev55_lt c⟩, 23),
   (⟨k0_dev56 c, k0_dev56_lt c⟩, 24), (⟨k0_dev57 c, k0_dev57_lt c⟩, 25), (⟨k0_dev58 c, k0_dev58_lt c⟩, 26), (⟨k0_dev59 c, k0_dev59_lt c⟩, 27),
   (⟨k0_dev60 c, k0_dev60_lt c⟩, 28), (⟨k0_dev61 c, k0_dev61_lt c⟩, 29), (⟨k0_dev62 c, k0_dev62_lt c⟩, 30)]
/-- The peers as the second copies address them. -/
def copy2Devs (c : Dev nD) : List (Dev nD × Fin 31) :=
  [(⟨k0_dev63 c, k0_dev63_lt c⟩, 0), (⟨k0_dev64 c, k0_dev64_lt c⟩, 1), (⟨k0_dev65 c, k0_dev65_lt c⟩, 2), (⟨k0_dev66 c, k0_dev66_lt c⟩, 3),
   (⟨k0_dev67 c, k0_dev67_lt c⟩, 4), (⟨k0_dev68 c, k0_dev68_lt c⟩, 5), (⟨k0_dev69 c, k0_dev69_lt c⟩, 6), (⟨k0_dev70 c, k0_dev70_lt c⟩, 7),
   (⟨k0_dev71 c, k0_dev71_lt c⟩, 8), (⟨k0_dev72 c, k0_dev72_lt c⟩, 9), (⟨k0_dev73 c, k0_dev73_lt c⟩, 10), (⟨k0_dev74 c, k0_dev74_lt c⟩, 11),
   (⟨k0_dev75 c, k0_dev75_lt c⟩, 12), (⟨k0_dev76 c, k0_dev76_lt c⟩, 13), (⟨k0_dev77 c, k0_dev77_lt c⟩, 14), (⟨k0_dev78 c, k0_dev78_lt c⟩, 15),
   (⟨k0_dev79 c, k0_dev79_lt c⟩, 16), (⟨k0_dev80 c, k0_dev80_lt c⟩, 17), (⟨k0_dev81 c, k0_dev81_lt c⟩, 18), (⟨k0_dev82 c, k0_dev82_lt c⟩, 19),
   (⟨k0_dev83 c, k0_dev83_lt c⟩, 20), (⟨k0_dev84 c, k0_dev84_lt c⟩, 21), (⟨k0_dev85 c, k0_dev85_lt c⟩, 22), (⟨k0_dev86 c, k0_dev86_lt c⟩, 23),
   (⟨k0_dev87 c, k0_dev87_lt c⟩, 24), (⟨k0_dev88 c, k0_dev88_lt c⟩, 25), (⟨k0_dev89 c, k0_dev89_lt c⟩, 26), (⟨k0_dev90 c, k0_dev90_lt c⟩, 27),
   (⟨k0_dev91 c, k0_dev91_lt c⟩, 28), (⟨k0_dev92 c, k0_dev92_lt c⟩, 29), (⟨k0_dev93 c, k0_dev93_lt c⟩, 30)]

theorem sigDevs_eq : sigDevs = peers := funext (by decide +kernel)
theorem copy1Devs_eq : copy1Devs = peers := funext (by decide +kernel)
theorem copy2Devs_eq : copy2Devs = peers := funext (by decide +kernel)

/-- The printed kernel function is the program over lists, at the peers as the operations address them. -/
theorem body_eq_loopOver (a0 : Memref sig .tc .vmem S1024x512 .bf16) (h0 : a0.IsWhole) (a1 : Memref sig .tc .vmem S1024x512 .f32) (h1 : a1.IsWhole)
    (a2 : Memref sig .tc .vmem S31x32x512 .bf16) (h2 : a2.IsWhole) (a3 : Memref sig .tc .vmem S1024x512 .bf16) (h3 : a3.IsWhole)
    (a4 a5 a6 a7 : DmaSems sig S_) :
    cc0_body (F := F) a0 h0 a1 h1 a2 h2 a3 h3 a4 a5 a6 a7
      = loopOver a0 h0 a1 a2 h2 a3 h3 a4.sem a5.sem a6.sem a7.sem sigDevs copy1Devs copy2Devs := by
  rfl

/-- The printed kernel function is the program over lists. -/
theorem body_eq_loop (a0 : Memref sig .tc .vmem S1024x512 .bf16) (h0 : a0.IsWhole) (a1 : Memref sig .tc .vmem S1024x512 .f32) (h1 : a1.IsWhole)
    (a2 : Memref sig .tc .vmem S31x32x512 .bf16) (h2 : a2.IsWhole) (a3 : Memref sig .tc .vmem S1024x512 .bf16) (h3 : a3.IsWhole)
    (a4 a5 a6 a7 : DmaSems sig S_) :
    cc0_body (F := F) a0 h0 a1 h1 a2 h2 a3 h3 a4 a5 a6 a7
      = loopOver a0 h0 a1 a2 h2 a3 h3 a4.sem a5.sem a6.sem a7.sem peers peers peers := by
  rw [body_eq_loopOver, sigDevs_eq, copy1Devs_eq, copy2Devs_eq]

end Cert.KernelIdeal.Own

end
-- ==== Proof.KernelIdeal.Geometry.lean ====
/-
  Which elements the kernel's views address: the rows that belong to a device in the two 1024-row arrays, and the slots of the landing
  array; the contents that each copy leaves, as functions of what every device is given.
-/
module

public import proofs.«01_k».proof.Proof.KernelIdeal.Loop

@[expose] public section

noncomputable section

namespace Cert.KernelIdeal.Own

open Idealize.ShloMosaic Idealize.ShloMosaic.TcCoe
open Idealize.SL.Sem
open Cert.KernelIdeal.Gen

variable {F : FTy → Type} [FloatOps F]

/-! ## The ring of devices -/

theorem peer_rev : ∀ (c : Dev nD) (i : Fin 31), peer (peer c i) i.rev = c := by decide +kernel
theorem peer_rev' (c : Dev nD) (i : Fin 31) : peer (peer c i.rev) i = c := by
  have h := peer_rev c i.rev; rwa [Fin.rev_rev] at h
theorem peer_ne : ∀ (c : Dev nD) (i : Fin 31), peer c i ≠ c := by decide +kernel
theorem peer_inj : ∀ (c : Dev nD) (i j : Fin 31), peer c i = peer c j → i = j := by decide +kernel
theorem peer_surj : ∀ (c d : Dev nD), d ≠ c → ∃ i : Fin 31, peer c i = d := by decide +kernel

/-- Stepping `i + 1` places around the ring, as a permutation of the devices. -/
def turn (i : Fin 31) : Dev nD ≃ Dev nD := ⟨fun c => peer c i, fun c => peer c i.rev, fun c => peer_rev c i, fun c => peer_rev' c i⟩

/-- The peers of a device, as an embedding of the offsets. -/
def peerEmb (c : Dev nD) : Fin 31 ↪ Dev nD := ⟨peer c, fun i j => peer_inj c i j⟩
theorem erase_eq (c : Dev nD) : Finset.univ.erase c = Finset.univ.map (peerEmb c) := by
  ext d
  rw [Finset.mem_erase, Finset.mem_map]
  constructor
  · rintro ⟨h, -⟩; obtain ⟨i, hi⟩ := peer_surj c d h; exact ⟨i, Finset.mem_univ _, hi⟩
  · rintro ⟨i, -, rfl⟩; exact ⟨peer_ne c i, Finset.mem_univ _⟩

/-- The rows of the peer at offset `i + 1` are addressed as that peer addresses its own. -/
theorem off1_eq : ∀ (c : Dev nD) (i : Fin 31), k0_off1 c (BitVec.ofNat 32 (1 + i.val)) = ![32 * (peer c i).val, 0] := by decide +kernel

/-! ## The four buffers -/

/-- The staged input, the staged result, the landing array and the gathered array. -/
abbrev aX : Memref sig .tc .vmem S1024x512 .bf16 := Memref.whole cc0_stg0_0
abbrev aO : Memref sig .tc .vmem S1024x512 .f32 := Memref.whole cc0_stg1_0
abbrev aL : Memref sig .tc .vmem S31x32x512 .bf16 := Memref.whole cc0_scratch0
abbrev aG : Memref sig .tc .vmem S1024x512 .bf16 := Memref.whole cc0_scratch1

/-- The device whose thirty-two rows a 1024-row index lies in. -/
def devOf (p : S1024x512.Idx) : Dev nD := ⟨(p 0).val / 32, by have h : (p 0).val < 1024 := (p 0).isLt; show _ < 32; omega⟩
/-- The index within those thirty-two rows. -/
def within (p : S1024x512.Idx) : S32x512.Idx := fun a => match a with
  | ⟨0, _⟩ => (⟨(p 0).val % 32, Nat.mod_lt _ (by decide)⟩ : Fin 32)
  | ⟨1, _⟩ => (p 1 : Fin 512)
/-- Index `y` of device `e`'s rows, in the 1024-row array. -/
def rowAt (e : Dev nD) (y : S32x512.Idx) : S1024x512.Idx := fun a => match a with
  | ⟨0, _⟩ => (⟨32 * e.val + (y 0).val, by have h : (y 0).val < 32 := (y 0).isLt; have := e.isLt; show _ < 1024; unfold nD at this; omega⟩ : Fin 1024)
  | ⟨1, _⟩ => (y 1 : Fin 512)
/-- Index `y` of slot `k` of the landing array. -/
def slotAt (k : Fin 31) (y : S32x512.Idx) : S31x32x512.Idx := fun a => match a with
  | ⟨0, _⟩ => (k : Fin 31)
  | ⟨1, _⟩ => (y 0 : Fin 32)
  | ⟨2, _⟩ => (y 1 : Fin 512)
/-- The slot of a landing index, -/
def slotOf (p : S31x32x512.Idx) : Fin 31 := p 0
/-- and the index within it. -/
def inSlot (p : S31x32x512.Idx) : S32x512.Idx := fun a => match a with
  | ⟨0, _⟩ => (p 1 : Fin 32)
  | ⟨1, _⟩ => (p 2 : Fin 512)

theorem idx2_ext {p q : S1024x512.Idx} (h0 : (p 0).val = (q 0).val) (h1 : (p 1).val = (q 1).val) : p = q :=
  funext fun a => Fin.ext (by fin_cases a; exacts [h0, h1])
theorem idxB_ext {p q : S32x512.Idx} (h0 : (p 0).val = (q 0).val) (h1 : (p 1).val = (q 1).val) : p = q :=
  funext fun a => Fin.ext (by fin_cases a; exacts [h0, h1])
theorem idx3_ext {p q : S31x32x512.Idx} (h0 : (p 0).val = (q 0).val) (h1 : (p 1).val = (q 1).val) (h2 : (p 2).val = (q 2).val) : p = q :=
  funext fun a => Fin.ext (by fin_cases a; exacts [h0, h1, h2])

theorem devOf_rowAt (e : Dev nD) (y : S32x512.Idx) : devOf (rowAt e y) = e :=
  Fin.ext (by have h : (y 0).val < 32 := (y 0).isLt; show (32 * e.val + (y 0).val) / 32 = e.val; omega)
theorem within_rowAt (e : Dev nD) (y : S32x512.Idx) : within (rowAt e y) = y :=
  idxB_ext (by have h : (y 0).val < 32 := (y 0).isLt; show (32 * e.val + (y 0).val) % 32 = (y 0).val; omega) rfl
theorem rowAt_within (p : S1024x512.Idx) : rowAt (devOf p) (within p) = p :=
  idx2_ext (by show 32 * ((p 0).val / 32) + (p 0).val % 32 = (p 0).val; omega) rfl
theorem slotOf_slotAt (k : Fin 31) (y : S32x512.Idx) : slotOf (slotAt k y) = k := rfl
theorem inSlot_slotAt (k : Fin 31) (y : S32x512.Idx) : inSlot (slotAt k y) = y := idxB_ext rfl rfl
theorem slotAt_inSlot (p : S31x32x512.Idx) : slotAt (slotOf p) (inSlot p) = p := idx3_ext rfl rfl rfl

/-- The elements in device `e`'s rows. -/
def rows (e : Dev nD) : Finset S1024x512.Idx := Finset.univ.filter fun p => devOf p = e
/-- The elements of slot `k`. -/
def slots (k : Fin 31) : Finset S31x32x512.Idx := Finset.univ.filter fun p => slotOf p = k

theorem mem_rows {e : Dev nD} {p : S1024x512.Idx} : p ∈ rows e ↔ devOf p = e := by simp [rows]
theorem mem_slots {k : Fin 31} {p : S31x32x512.Idx} : p ∈ slots k ↔ slotOf p = k := by simp [slots]

theorem rows_disjoint (e e' : Dev nD) (h : e ≠ e') : Disjoint (rows e) (rows e') :=
  Finset.disjoint_left.mpr fun p h₁ h₂ => h ((mem_rows.mp h₁).symm.trans (mem_rows.mp h₂))
theorem rows_cover : Finset.univ.biUnion rows = Finset.univ :=
  Finset.eq_univ_iff_forall.mpr fun p => Finset.mem_biUnion.mpr ⟨devOf p, Finset.mem_univ _, mem_rows.mpr rfl⟩
theorem slots_disjoint (k k' : Fin 31) (h : k ≠ k') : Disjoint (slots k) (slots k') :=
  Finset.disjoint_left.mpr fun p h₁ h₂ => h ((mem_slots.mp h₁).symm.trans (mem_slots.mp h₂))
theorem slots_cover : Finset.univ.biUnion slots = Finset.univ :=
  Finset.eq_univ_iff_forall.mpr fun p => Finset.mem_biUnion.mpr ⟨slotOf p, Finset.mem_univ _, mem_slots.mpr rfl⟩

/-! ## The views -/

/-- A unit rectangle at device `e`'s rows places index `y` at `rowAt e y`, -/
theorem rowRect_emb {off : Fin 2 → Nat} (e : Dev nD) (ho : off = ![32 * e.val, 0]) (inb : ∀ a, off a + S32x512.size a ≤ S1024x512.size a)
    (y : S32x512.Idx) : (Rect.unit (s := S1024x512) off S32x512.size inb).emb y = rowAt e y := by
  subst ho
  exact idx2_ext (by show 32 * e.val + 1 * (y 0).val = 32 * e.val + (y 0).val; omega) (by show 0 + 1 * (y 1).val = (y 1).val; omega)
/-- and its elements are those rows. -/
theorem rowRect_set {off : Fin 2 → Nat} (e : Dev nD) (ho : off = ![32 * e.val, 0]) (inb : ∀ a, off a + S32x512.size a ≤ S1024x512.size a) :
    (Rect.unit (s := S1024x512) off S32x512.size inb).set = rows e := by
  rw [← Rect.map_emb_univ]
  ext p
  rw [Finset.mem_map, mem_rows]
  constructor
  · rintro ⟨y, -, rfl⟩; rw [rowRect_emb e ho]; exact devOf_rowAt e y
  · rintro rfl; exact ⟨within p, Finset.mem_univ _, by rw [rowRect_emb _ ho]; exact rowAt_within p⟩

theorem slotM_emb (k : Fin 31) (y : S32x512.Idx) : (slotM aL k).view.emb y = slotAt k y := by
  show (Rect.unit (s := S31x32x512) ![k.val, 0, 0] S1x32x512.size (slot_inb k)).emb (Shape.reshapeEquiv squeezes_S1x32x512_S32x512.numel_eq y) = _
  have e : Shape.reshapeEquiv squeezes_S1x32x512_S32x512.numel_eq y
      = (fun a => match a with | ⟨0, _⟩ => (0 : Fin 1) | ⟨1, _⟩ => (y 0 : Fin 32) | ⟨2, _⟩ => (y 1 : Fin 512) : S1x32x512.Idx) := by
    refine Shape.reshapeEquiv_eq_of_rowMajor _ ?_
    rw [Shape.rowMajor_val_two, Shape.rowMajor_val_three]
    show (0 * 32 + (y 0).val) * 512 + (y 1).val = (y 0).val * 512 + (y 1).val
    omega
  rw [e]
  exact idx3_ext (by show k.val + 1 * 0 = k.val; omega) (by show 0 + 1 * (y 0).val = (y 0).val; omega) (by show 0 + 1 * (y 1).val = (y 1).val; omega)

theorem slotM_set (k : Fin 31) : (slotM aL k).view.set = slots k := by
  ext p
  unfold View.set
  rw [Finset.mem_map, mem_slots]
  constructor
  · rintro ⟨y, -, rfl⟩; rw [slotM_emb]; rfl
  · intro h; exact ⟨inSlot p, Finset.mem_univ _, by rw [slotM_emb, ← h]; exact slotAt_inSlot p⟩

theorem ownX_set (e : Dev nD) : (ownM aX e).view.set = rows e := (View.set_slice_whole _ _).trans (rowRect_set e (k0_off3_eq e) _)
theorem ownG_set (e : Dev nD) : (ownM aG e).view.set = rows e := (View.set_slice_whole _ _).trans (rowRect_set e (k0_off3_eq e) _)
theorem rowX_set (c : Dev nD) (i : Fin 31) : (rowM aX c i).view.set = rows (peer c i) :=
  (View.set_slice_whole _ _).trans (rowRect_set _ (off1_eq c i) _)
theorem rowX_emb (c : Dev nD) (i : Fin 31) (y : S32x512.Idx) : (rowM aX c i).view.emb y = rowAt (peer c i) y := rowRect_emb _ (off1_eq c i) _ y
theorem ownG_emb (e : Dev nD) (y : S32x512.Idx) : (ownM aG e).view.emb y = rowAt e y := rowRect_emb _ (k0_off3_eq e) _ y

/-! ## Contents -/

/-- A 1024-row array and a device's rows of it. -/
abbrev Arr (F : FTy → Type) : Type := S1024x512.Idx → Elt F .bf16
abbrev Blk (F : FTy → Type) : Type := S32x512.Idx → Elt F .bf16
/-- Device `e`'s rows of an array. -/
def part (f : Arr F) (e : Dev nD) : Blk F := fun y => f (rowAt e y)

variable (x : Dev nD → Arr F)

/-- The landing array of device `c` once all first copies have landed: slot `k` holds `c`'s rows of the array of the device `k + 1` places
    before it. -/
def land (c : Dev nD) : S31x32x512.Idx → Elt F .bf16 := fun p => part (x (peer c (slotOf p).rev)) c (inSlot p)
/-- Device `c`'s rows of the result: its own rows plus the sum of the landed ones. -/
def red (c : Dev nD) : Blk F := k0_pay2 (k0_pay1 (part (x c) c)) (land x c)
/-- The gathered array once all second copies have landed: every device's rows of the result. -/
def gath : Arr F := fun p => red x (devOf p) (within p)
/-- The kernel's result, the same on every device. -/
def out : S1024x512.Idx → Elt F .f32 := k0_pay3 (gath x)

theorem gath_rowAt (e : Dev nD) (y : S32x512.Idx) : gath x (rowAt e y) = red x e y := by
  unfold gath; rw [devOf_rowAt, within_rowAt]

/-- What the first copy from device `c` at offset `i + 1` writes is what the landing array of its peer is to hold there. -/
theorem landed1 (c : Dev nD) (i : Fin 31) (f : S31x32x512.Idx → Elt F .bf16) : ∀ p ∈ slots i,
    (slotM aL i).view.write (Elt F) f ((rowM aX c i).view.read (Elt F) (x c)) Finset.univ p = land x (peer c i) p := by
  intro p hp
  obtain ⟨y, rfl⟩ : ∃ y, slotAt i y = p := ⟨inSlot p, by rw [← mem_slots.mp hp]; exact slotAt_inSlot p⟩
  rw [← slotM_emb i y, View.write_emb_of_mem _ _ (Finset.mem_univ _), slotM_emb]
  show (rowM aX c i).view.read (Elt F) (x c) y = part (x (peer (peer c i) i.rev)) (peer c i) (inSlot (slotAt i y))
  rw [peer_rev, inSlot_slotAt]
  show x c ((rowM aX c i).view.emb y) = _
  rw [rowX_emb]; rfl

/-- The second copy writes the device's rows of the result over any rows. -/
theorem landed2_eq (c : Dev nD) (f : Arr F) : ∀ p ∈ rows c,
    (ownM aG c).view.write (Elt F) f ((ownM aG c).view.read (Elt F) (gath x)) Finset.univ p = gath x p := by
  intro p hp
  obtain ⟨y, rfl⟩ : ∃ y, rowAt c y = p := ⟨within p, by rw [← mem_rows.mp hp]; exact rowAt_within p⟩
  rw [← ownG_emb c y, View.write_emb_of_mem _ _ (Finset.mem_univ _)]
  rfl

/-- A load of the device's own rows reads them. -/
theorem read_own (c : Dev nD) (f : Arr F) :
    (aX.access (Rect.unit (s := S1024x512) (k0_off2 c) S32x512.size (k0_off2_inb c))).read (Elt F) f = part f c :=
  funext fun y => congrArg f (rowRect_emb c (k0_off2_eq c) _ y)

/-- The store of the device's rows of the result leaves them as the gathered array is to hold them. -/
theorem stored (c : Dev nD) (f : Arr F) : ∀ p ∈ rows c,
    (aG.access (Rect.unit (s := S1024x512) (k0_off2 c) S32x512.size (k0_off2_inb c))).write (Elt F) f (red x c) Finset.univ p = gath x p := by
  intro p hp
  obtain ⟨y, rfl⟩ : ∃ y, rowAt c y = p := ⟨within p, by rw [← mem_rows.mp hp]; exact rowAt_within p⟩
  have e : (aG.access (Rect.unit (s := S1024x512) (k0_off2 c) S32x512.size (k0_off2_inb c))).emb y = rowAt c y := rowRect_emb c (k0_off2_eq c) _ y
  rw [gath_rowAt, ← e, View.write_emb_of_mem _ _ (Finset.mem_univ _)]
  rfl

end Cert.KernelIdeal.Own

end
-- ==== Proof.KernelIdeal.Schedule.lean ====
/-
  The protocol of the kernel function, as a schedule of duties over five semaphores of every device: the barrier, the two pairs of
  send and receive semaphores. Every one of the five has ONE round with thirty-one duties, one for each offset around the ring:

    barrier of d   duty j, paid by the peer e = peer d j with its signal: slot j of e's landing array, the rows d of e's gathered array,
                   and that e's two receive semaphores are open: what d needs in order to copy to e
    send 1 of c    duty j: the rows of the peer at offset j in c's own partial array, back from c's first copy to that peer
    receive 1 of d duty j: slot j of d's landing array, with what the device thirty-one minus j places on has sent
    send 2 of c    duty j: the j-th part of a share of c's own rows of its gathered array, back from c's second copy to that peer
    receive 2 of d duty j: the rows that the second copy at offset j has filled in d's gathered array

  A receive is owed above the barrier, and the second receive above the first: no device waits while it owes something at or below.
-/
module

public import proofs.«01_k».proof.Proof.KernelIdeal.Geometry
public import Idealize.ShloMosaic.Lib.Pipeline.Regions
public import Idealize.ShloMosaic.Lib.Pipeline.Kit
public import Idealize.ShloMosaic.Lib.Rounds
public import Idealize.ShloMosaic.Lib.Ring
public import Idealize.ShloMosaic.Lib.Tactic
public import Idealize.ShloMosaic.Lib.SparseCore.Stream
public import Idealize.ShloMosaic.Lib.SparseCore.ProtocolKit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-- The ghost state: the pipeline's own rounds, and the protocol's, whose duties are named by offsets around the ring. -/
abbrev UU : Type := UR sig nD τ × URounds (GSem nD τ sig) (Fin 31)

local notation "𝕄" => MT nD τ sig Unit (Elt F) ℕ UU ℕ

abbrev EP : Emb (UR sig nD τ) (MT nD τ sig Unit (Elt F) ℕ UU ℕ) := embL
abbrev ER : Emb (URounds (GSem nD τ sig) (Fin 31)) (MT nD τ sig Unit (Elt F) ℕ UU ℕ) := embR

/-! ## Semaphores and cells -/

abbrev dSA : DmaSem sig := cc0_scratch2.sem
abbrev dRA : DmaSem sig := cc0_scratch3.sem
abbrev dSB : DmaSem sig := cc0_scratch4.sem
abbrev dRB : DmaSem sig := cc0_scratch5.sem

/-- The barrier cell, and the cells of the first copies' and the second copies' send and receive semaphores. -/
abbrev bar (c : Dev nD) : GSem nD τ sig := ((c : Thread nD τ), .reg barSem)
abbrev sA (c : Dev nD) : GSem nD τ sig := ((c : Thread nD τ), .dma dSA)
abbrev rA (c : Dev nD) : GSem nD τ sig := ((c : Thread nD τ), .dma dRA)
abbrev sB (c : Dev nD) : GSem nD τ sig := ((c : Thread nD τ), .dma dSB)
abbrev rB (c : Dev nD) : GSem nD τ sig := ((c : Thread nD τ), .dma dRB)

/-- What one copy of thirty-two rows counts on a semaphore. -/
@[irreducible] def N : ℕ := (slotM aL 0).view.dmaCredit
theorem credit_slot (i : Fin 31) : (slotM aL i).view.dmaCredit = N := by unfold N; rfl
theorem credit_rowX (c : Dev nD) (i : Fin 31) : (rowM aX c i).view.dmaCredit = N := by unfold N; rfl
theorem credit_rowG (c : Dev nD) (i : Fin 31) : (rowM aG c i).view.dmaCredit = N := by unfold N; rfl
theorem credit_ownG (c : Dev nD) : (ownM aG c).view.dmaCredit = N := by unfold N; rfl
theorem credit_all : aL.view.dmaCredit = 31 * N := by unfold N; decide
theorem N_pos : 0 < N := by unfold N; exact View.dmaCredit_pos _ (by decide)

/-! ## Pieces of buffers -/

/-- The rows of device `e` in device `c`'s partial array. -/
abbrev rowsX (c e : Dev nD) (q : PosShare TreeShare) (f : Buf (Elt F) ((c : Thread nD τ).loc cc0_stg0_0)) : sProp 𝕄 :=
  (c : Thread nD τ).loc cc0_stg0_0 ↦[rows e]{q} f
/-- The rows of device `e` in device `c`'s gathered array. -/
abbrev rowsG (c e : Dev nD) (q : PosShare TreeShare) (f : Buf (Elt F) ((c : Thread nD τ).loc cc0_scratch1)) : sProp 𝕄 :=
  (c : Thread nD τ).loc cc0_scratch1 ↦[rows e]{q} f
/-- Slot `k` of device `c`'s landing array. -/
abbrev slotL (c : Dev nD) (k : Fin 31) (f : Buf (Elt F) ((c : Thread nD τ).loc cc0_scratch0)) : sProp 𝕄 :=
  (c : Thread nD τ).loc cc0_scratch0 ↦[slots k]{fullShare} f

/-- The part of the right half of a share that goes out with the second copy at offset `j`. -/
abbrev lent (j : Fin 31) : PosShare TreeShare := pieceOf (fullShare : PosShare TreeShare).right 31 (by decide) j

/-! ## The duties' payloads -/

section Payloads

variable (x : Dev nD → Arr F)

def barPay (d : Dev nD) (j : Fin 31) : sProp 𝕄 :=
  iprop((∃ f, slotL (peer d j) j f) ∗ (∃ f, rowsG (peer d j) d fullShare f) ∗ reached ER (rA (peer d j)) 0 ∗ reached ER (rB (peer d j)) 0)
def sAPay (c : Dev nD) (j : Fin 31) : sProp 𝕄 := rowsX c (peer c j) fullShare (x c)
def rAPay (d : Dev nD) (j : Fin 31) : sProp 𝕄 := slotL d j (land x d)
def sBPay (c : Dev nD) (j : Fin 31) : sProp 𝕄 := rowsG c c (lent j) (gath x)
def rBPay (d : Dev nD) (j : Fin 31) : sProp 𝕄 := rowsG d (peer d j.rev) fullShare (gath x)

/-- A cell of the protocol: one of the five semaphores, on a TensorCore. -/
abbrev IsOurs (g : GSem nD τ sig) : Prop :=
  g.1.2 = .tc ∧ (g.2 = .reg barSem ∨ g.2 = .dma dSA ∨ g.2 = .dma dRA ∨ g.2 = .dma dSB ∨ g.2 = .dma dRB)

/-- One round of thirty-one duties on every cell of the protocol. -/
def Rd : Rounds.Schedule (GSem nD τ sig) (Fin 31) 𝕄 where
  duties g r := if r = 0 ∧ IsOurs g then Finset.univ else ∅
  unitless _ := False
  amount g _ _ := if g.2 = .reg barSem then 1 else N
  payload g _ j :=
    if g.2 = .reg barSem then barPay g.1.1 j
    else if g.2 = .dma dSA then sAPay x g.1.1 j
    else if g.2 = .dma dRA then rAPay x g.1.1 j
    else if g.2 = .dma dSB then sBPay x g.1.1 j
    else if g.2 = .dma dRB then rBPay x g.1.1 j
    else iprop(emp)
  amount_pos g _ _ _ := by
    by_cases h : g.2 = .reg barSem
    · rw [if_pos h]; exact Nat.one_pos
    · rw [if_neg h]; exact N_pos

instance payload_storable (g : GSem nD τ sig) (r : ℕ) (j : Fin 31) : BI.Storable (upEmb : UEmb _ 𝕄) ((Rd x).payload g r j) := by
  show BI.Storable upEmb (if g.2 = .reg barSem then barPay g.1.1 j else if g.2 = .dma dSA then sAPay x g.1.1 j
    else if g.2 = .dma dRA then rAPay x g.1.1 j else if g.2 = .dma dSB then sBPay x g.1.1 j
    else if g.2 = .dma dRB then rBPay x g.1.1 j else iprop(emp))
  unfold barPay sAPay rAPay sBPay rBPay
  (repeat' split) <;> infer_instance

theorem dma_ne_bar (s : DmaSem sig) : (SemLoc.dma s : SemLoc sig) ≠ .reg barSem := fun h => by cases h

theorem duties_ours {g : GSem nD τ sig} (h : IsOurs g) : (Rd x).duties g 0 = Finset.univ := by
  dsimp only [Rd]; exact if_pos ⟨rfl, h⟩
theorem duties_later (g : GSem nD τ sig) : ∀ r, 1 ≤ r → (Rd x).duties g r = ∅ :=
  fun r hr => by dsimp only [Rd]; exact if_neg fun h => by omega

theorem ours_bar (c : Dev nD) : IsOurs (bar c) := ⟨rfl, .inl rfl⟩
theorem ours_sA (c : Dev nD) : IsOurs (sA c) := ⟨rfl, .inr (.inl rfl)⟩
theorem ours_rA (c : Dev nD) : IsOurs (rA c) := ⟨rfl, .inr (.inr (.inl rfl))⟩
theorem ours_sB (c : Dev nD) : IsOurs (sB c) := ⟨rfl, .inr (.inr (.inr (.inl rfl)))⟩
theorem ours_rB (c : Dev nD) : IsOurs (rB c) := ⟨rfl, .inr (.inr (.inr (.inr rfl)))⟩

theorem mem_duties {g : GSem nD τ sig} (h : IsOurs g) (j : Fin 31) : j ∈ (Rd x).duties g 0 := by
  rw [duties_ours x h]; exact Finset.mem_univ j

theorem amount_bar (c : Dev nD) (j : Fin 31) : (Rd x).amount (bar c) 0 j = 1 := by dsimp only [Rd]; exact if_pos rfl
theorem amount_dma (c : Dev nD) (s : DmaSem sig) (j : Fin 31) : (Rd x).amount ((c : Thread nD τ), .dma s) 0 j = N := by
  dsimp only [Rd]; exact if_neg (dma_ne_bar s)

theorem expect_bar (c : Dev nD) : (Rd x).expect (bar c) 0 = 31 := by
  unfold Schedule.expect Schedule.amountOf
  rw [duties_ours x (ours_bar c), Finset.sum_congr rfl fun j _ => amount_bar x c j, Finset.sum_const, smul_eq_mul, mul_one]; rfl
theorem expect_dma (c : Dev nD) (s : DmaSem sig) (h : IsOurs ((c : Thread nD τ), .dma s)) : (Rd x).expect ((c : Thread nD τ), .dma s) 0 = 31 * N := by
  unfold Schedule.expect Schedule.amountOf
  rw [duties_ours x h, Finset.sum_congr rfl fun j _ => amount_dma x c s j, Finset.sum_const, smul_eq_mul]; rfl

theorem payload_bar (c : Dev nD) (j : Fin 31) : (Rd x).payload (bar c) 0 j = barPay c j := by dsimp only [Rd]; exact if_pos rfl
theorem payload_sA (c : Dev nD) (j : Fin 31) : (Rd x).payload (sA c) 0 j = sAPay x c j := by
  dsimp only [Rd]; rw [if_neg (dma_ne_bar _), if_pos rfl]
theorem payload_rA (c : Dev nD) (j : Fin 31) : (Rd x).payload (rA c) 0 j = rAPay x c j := by
  dsimp only [Rd]; rw [if_neg (dma_ne_bar _), if_neg (by decide), if_pos rfl]
theorem payload_sB (c : Dev nD) (j : Fin 31) : (Rd x).payload (sB c) 0 j = sBPay x c j := by
  dsimp only [Rd]; rw [if_neg (dma_ne_bar _), if_neg (by decide), if_neg (by decide), if_pos rfl]
theorem payload_rB (c : Dev nD) (j : Fin 31) : (Rd x).payload (rB c) 0 j = rBPay x c j := by
  dsimp only [Rd]; rw [if_neg (dma_ne_bar _), if_neg (by decide), if_neg (by decide), if_neg (by decide), if_pos rfl]

/-- All the payloads of a cell of the protocol, given what each is. -/
theorem all_pay {g : GSem nD τ sig} (h : IsOurs g) (P : Fin 31 → sProp 𝕄) (hP : ∀ j, (Rd x).payload g 0 j = P j) :
    bigSep ((Rd x).duties g 0) (fun j => (Rd x).payload g 0 j) = bigSep Finset.univ P := by
  rw [duties_ours x h]; exact bigSep_congr fun j _ => hP j

/-- A cell of the protocol whose only round is over is closed: its counter is back, at zero. -/
theorem close (κ : ℕ) (g : GSem nD τ sig) :
    iprop(cellInv ER (Rd x) κ g ∗ atPos ER g (0 + 1) ∅ 0) ⊢ (|={Set.univ}=> semVal g 0 : sProp 𝕄) :=
  Rounds.cell_close ER (Rd x) (Set.mem_univ κ) id (duties_later x g)

/-- Known on every device throughout the kernel: the protocol's cells under their invariants, and that the barriers are open. -/
def records (κ : GSem nD τ sig → ℕ) : sProp 𝕄 :=
  iprop((bigSep Finset.univ fun d : Dev nD => iprop(cellInv ER (Rd x) (κ (bar d)) (bar d) ∗ cellInv ER (Rd x) (κ (sA d)) (sA d)
      ∗ cellInv ER (Rd x) (κ (rA d)) (rA d) ∗ cellInv ER (Rd x) (κ (sB d)) (sB d) ∗ cellInv ER (Rd x) (κ (rB d)) (rB d)))
    ∗ bigSep Finset.univ fun d : Dev nD => reached ER (bar d) 0)

instance records_persistent (κ : GSem nD τ sig → ℕ) : BI.Persistent (records x κ) := by unfold records; infer_instance

variable {κ : GSem nD τ sig → ℕ}

theorem records_cells (d : Dev nD) : records x κ ⊢ iprop(cellInv ER (Rd x) (κ (bar d)) (bar d) ∗ cellInv ER (Rd x) (κ (sA d)) (sA d)
    ∗ cellInv ER (Rd x) (κ (rA d)) (rA d) ∗ cellInv ER (Rd x) (κ (sB d)) (sB d) ∗ cellInv ER (Rd x) (κ (rB d)) (rB d)) := by
  unfold records
  exact sep_elim_left.trans (bigSep_elim (Finset.mem_univ d))
theorem records_open (d : Dev nD) : records x κ ⊢ reached ER (bar d) 0 := by
  unfold records
  exact sep_elim_right.trans (bigSep_elim (Finset.mem_univ d))
theorem inv_bar (d : Dev nD) : records x κ ⊢ cellInv ER (Rd x) (κ (bar d)) (bar d) := (records_cells x d).trans (by iintro ⟨H, -⟩; iexact H)
theorem inv_sA (d : Dev nD) : records x κ ⊢ cellInv ER (Rd x) (κ (sA d)) (sA d) := (records_cells x d).trans (by iintro ⟨-, H, -⟩; iexact H)
theorem inv_rA (d : Dev nD) : records x κ ⊢ cellInv ER (Rd x) (κ (rA d)) (rA d) := (records_cells x d).trans (by iintro ⟨-, -, H, -⟩; iexact H)
theorem inv_sB (d : Dev nD) : records x κ ⊢ cellInv ER (Rd x) (κ (sB d)) (sB d) := (records_cells x d).trans (by iintro ⟨-, -, -, H, -⟩; iexact H)
theorem inv_rB (d : Dev nD) : records x κ ⊢ cellInv ER (Rd x) (κ (rB d)) (rB d) := (records_cells x d).trans (by iintro ⟨-, -, -, -, H⟩; iexact H)

end Payloads

/-! ## What a device owes; the levels -/

/-- The signals to the peers' barriers, the first copies to the peers, the second copies to the peers. -/
abbrev oBar (c : Dev nD) (j : Fin 31) : CellTallies nD τ sig Unit := tallyAt (bar (peer c j)) () 1
abbrev oA (c : Dev nD) (j : Fin 31) : CellTallies nD τ sig Unit := tallyAt (rA (peer c j)) () N
abbrev oB (c : Dev nD) (j : Fin 31) : CellTallies nD τ sig Unit := tallyAt (rB (peer c j)) () N

/-- What a device owes at launch. -/
def O₀ (c : Dev nD) : CellTallies nD τ sig Unit := (∑ j, oB c j) + (∑ j, oA c j) + ∑ j, oBar c j

def L (g : GSem nD τ sig) : Finset Unit := if g.1.2 = .tc then {()} else ∅
/-- Barriers at 1, first receives at 2, second receives at 3, everything else at 0. -/
def lv (g : GSem nD τ sig) (_ : Unit) : ℕ :=
  if g.2 = .reg barSem then 1 else if g.2 = .dma dRA then 2 else if g.2 = .dma dRB then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (bar c) () = 1 := if_pos rfl
theorem lv_rA (c : Dev nD) : lv (rA c) () = 2 := by dsimp only [lv]; rw [if_neg (dma_ne_bar _), if_pos rfl]
theorem lv_rB (c : Dev nD) : lv (rB c) () = 3 := by dsimp only [lv]; rw [if_neg (dma_ne_bar _), if_neg (by decide), if_pos rfl]
theorem lv_sA (c : Dev nD) : lv (sA c) () = 0 := by
  dsimp only [lv]; rw [if_neg (dma_ne_bar _), if_neg (by decide), if_neg (by decide)]

/-- A sum of tallies owes only where one of its terms does. -/
theorem owed_sum {s : Finset (Fin 31)} {f : Fin 31 → GSem nD τ sig} {k : ℕ} {g : GSem nD τ sig} {u : Unit}
    (h : 0 < (∑ j ∈ s, (tallyAt (f j) () k : CellTallies nD τ sig Unit)) g u) : ∃ j, g = f j := by
  by_contra hn
  rw [Finset.sum_apply, Finsupp.finsetSum_apply, Finset.sum_eq_zero fun j _ => by
    rw [tallyAt_apply]; exact if_neg fun hg => hn ⟨j, hg.1⟩] at h
  exact absurd h (Nat.lt_irrefl 0)

/-- A wait at level `n` is allowed when everything owed lies above, on TensorCores. -/
theorem mayWait {c : Dev nD} {sm : SemLoc sig} {n : ℕ} {O : CellTallies nD τ sig Unit} (hn : lv ((c : Thread nD τ), sm) () = n)
    (hO : ∀ g u, 0 < O g u → g.1.2 = .tc ∧ n < lv g ()) : (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hn)
    (fun g u hg => (hO g u hg).2)

/-- While a device owes its peers' second receives only, it may wait at level 2 or below. -/
theorem mayWait_B {c : Dev nD} {sm : SemLoc sig} {n : ℕ} (hn : lv ((c : Thread nD τ), sm) () = n) (h : n ≤ 2) (s : Finset (Fin 31)) :
    (levAts L lv : sProp 𝕄) ⊢ MayWait (c : Thread nD τ) sm () (∑ j ∈ s, oB c j) :=
  mayWait hn fun g u hg => by
    obtain ⟨j, rfl⟩ := owed_sum hg
    exact ⟨rfl, by rw [lv_rB]; omega⟩

/-- While a device owes its peers' receives, it may wait on its barrier. -/
theorem mayWait_bar (c : Dev nD) :
    (levAts L lv : sProp 𝕄) ⊢ MayWait (c : Thread nD τ) (.reg barSem) () ((∑ j, oB c j) + ∑ j, oA c j) :=
  mayWait (lv_bar c) fun g u hg => by
    rw [Pi.add_apply, Finsupp.add_apply] at hg
    rcases Nat.add_pos_iff_pos_or_pos.mp hg with h | h
    · obtain ⟨j, rfl⟩ := owed_sum h
      exact ⟨rfl, by rw [lv_rB]; decide⟩
    · obtain ⟨j, rfl⟩ := owed_sum h
      exact ⟨rfl, by rw [lv_rA]; decide⟩

end Cert.KernelIdeal.Own
-- ==== Proof.KernelIdeal.Body.lean ====
/-
  The kernel function, run once at a symbolic device. A family of thirty-one operations is run by an invariant over the number of its
  operations done (`chain_loop`); the two families of waits that take a receive or send semaphore one copy at a time share one rule
  (`drain_chain`).
-/
module

public import proofs.«01_k».proof.Proof.KernelIdeal.Schedule

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.SparseCore.ProtocolKit (finFrom finUpTo bigSep_finFrom_succ bigSep_finFrom_zero bigSep_finFrom_self
  sum_finFrom_zero sum_finFrom_self add_sum_finFrom_succ sum_finFrom_succ)
open Cert.KernelIdeal.Gen

variable {F : FTy → Type} [FloatOps F]

local notation "𝕄" => MT nD τ sig Unit (Elt F) ℕ UU ℕ

abbrev 𝒱₀ : Variants := Variants.none

/-- What the program `p` on device `c` needs to end in `Kt`. -/
abbrev Wp (c : Dev nD) (p : Prog (Eff F) PUnit) (Kt : PUnit → sProp 𝕄) : sProp 𝕄 :=
  wp frame (wpE (defs₀ (F := F)) 𝒱₀ (c : Thread nD τ) none) Set.univ p Kt

/-! ## Families of operations -/

/-- A family of thirty-one operations runs by an invariant `I` over how many of them are done; `Γ` is known throughout. -/
theorem chain_loop (c : Dev nD) (l : Fin 31 → Eff F PUnit) (k : Prog (Eff F) PUnit) (Kt : PUnit → sProp 𝕄)
    (Γ : sProp 𝕄) [BI.Persistent Γ] (I : ℕ → sProp 𝕄)
    (hstep : ∀ (i : Fin 31) (k' : Prog (Eff F) PUnit),
      iprop(Γ ∗ I i.val ∗ (I (i.val + 1) -∗ Wp c k' Kt)) ⊢ Wp c (.op (l i) fun _ => k') Kt) :
    iprop(Γ ∗ I 0 ∗ (I 31 -∗ Wp c k Kt)) ⊢ Wp c (chain ((List.finRange 31).map l) k) Kt := by
  have key : ∀ m j : ℕ, j + m = 31 →
      iprop(Γ ∗ I j ∗ (I 31 -∗ Wp c k Kt)) ⊢ Wp c (chain (((List.finRange 31).drop j).map l) k) Kt := by
    intro m
    induction m with
    | zero =>
      intro j hj
      obtain rfl : j = 31 := by omega
      rw [List.drop_of_length_le (by simp)]
      show _ ⊢ Wp c k Kt
      iintro ⟨-, HI, Hk⟩
      iapply Hk; iexact HI
    | succ m ih =>
      intro j hj
      have hlt : j < (List.finRange 31).length := by rw [List.length_finRange]; omega
      rw [List.drop_eq_getElem_cons hlt, List.getElem_finRange]
      show _ ⊢ Wp c (.op (l (Fin.cast _ ⟨j, _⟩)) fun _ => chain (((List.finRange 31).drop (j + 1)).map l) k) Kt
      iintro ⟨#HΓ, HI, Hk⟩
      iapply (hstep ⟨j, by omega⟩ _)
      isplitr; · iexact HΓ
      isplitl [HI]; · iexact HI
      iintro HI
      iapply (ih (j + 1) (by omega))
      isplitr; · iexact HΓ
      isplitl [HI]; · iexact HI
      iexact Hk
  exact key 31 0 rfl

section Families

variable (x : Dev nD → Arr F)

/-- One wait of a family, taken at any position of the round. -/
theorem wait_one (c : Dev nD) (s : DmaSem sig) (κ : ℕ) (O : CellTallies nD τ sig Unit) (w : Eff F PUnit)
    (hw : ∀ (K : PUnit → sProp 𝕄), wpE (defs₀ (F := F)) 𝒱₀ (c : Thread nD τ) none Set.univ w K
      = waitSpec (c : Thread nD τ) Set.univ (.dma s) N K)
    (k : Prog (Eff F) PUnit) (Kt : PUnit → sProp 𝕄) (W : Waits sig Unit) (T : Finset (Fin 31)) (m : ℕ) :
    iprop(cellInv ER (Rd x) κ ((c : Thread nD τ), .dma s) ∗ cred (tallyAt ((c : Thread nD τ), .dma s) () N) ∗ owes (c : Thread nD τ) O W
        ∗ MayWait (c : Thread nD τ) (.dma s) () O ∗ atPos ER ((c : Thread nD τ), .dma s) 0 T m)
      ⊢ iprop((∀ S' : Finset (Fin 31),
              (⌜T ⊆ S' ∧ S' ⊆ (Rd x).duties ((c : Thread nD τ), .dma s) 0
                  ∧ m + N + ((Rd x).duties ((c : Thread nD τ), .dma s) 0 \ S').card ≤ (Rd x).expect ((c : Thread nD τ), .dma s) 0⌝
                ∗ owes (c : Thread nD τ) O (insert (.dma s, ()) W) ∗ atPos ER ((c : Thread nD τ), .dma s) 0 S' (m + N)
                ∗ bigSep (S' \ T) (fun j => (Rd x).payload ((c : Thread nD τ), .dma s) 0 j)) -∗ Wp c k Kt) -∗ Wp c (.op w fun _ => k) Kt) := by
  have h := Rounds.wp_wait 𝒱₀ ER (Rd x) (c : Thread nD τ) none hw (Set.mem_univ κ) (k := fun _ => k) (Q := Kt) (cr := Finsupp.single () N)
    (O := O) (W := W) (R := 0) (m := m) (T := T) {(.dma s, ())}
    (by rw [Util.total_single]) (by intro p hp; obtain ⟨u, -, rfl⟩ := Finset.mem_image.mp hp; exact Finset.mem_singleton_self _)
  rw [Finset.union_comm W, ← Finset.insert_eq] at h
  exact h

/-- Thirty-one waits, each for one copy, on a semaphore whose round is thirty-one copies: all the payloads of the round. -/
theorem drain_chain (c : Dev nD) (s : DmaSem sig) (h : IsOurs ((c : Thread nD τ), .dma s)) (κ : ℕ) (O : CellTallies nD τ sig Unit)
    (W : Waits sig Unit) (ops : Fin 31 → Eff F PUnit)
    (hops : ∀ i (K : PUnit → sProp 𝕄), wpE (defs₀ (F := F)) 𝒱₀ (c : Thread nD τ) none Set.univ (ops i) K
      = waitSpec (c : Thread nD τ) Set.univ (.dma s) N K)
    (P : Fin 31 → sProp 𝕄) (hP : ∀ j, (Rd x).payload ((c : Thread nD τ), .dma s) 0 j = P j)
    (k : Prog (Eff F) PUnit) (Kt : PUnit → sProp 𝕄) :
    iprop((cellInv ER (Rd x) κ ((c : Thread nD τ), .dma s) ∗ MayWait (c : Thread nD τ) (.dma s) () O)
        ∗ (owes (c : Thread nD τ) O W ∗ cred (tallyAt ((c : Thread nD τ), .dma s) () (31 * N)) ∗ atPos ER ((c : Thread nD τ), .dma s) 0 ∅ 0)
        ∗ ((owes (c : Thread nD τ) O (insert (.dma s, ()) W) ∗ atPos ER ((c : Thread nD τ), .dma s) (0 + 1) ∅ 0 ∗ bigSep Finset.univ P)
            -∗ Wp c k Kt))
      ⊢ Wp c (chain ((List.finRange 31).map ops) k) Kt := by
  iintro ⟨#HΓ, Hpre, Hk⟩
  iapply (chain_loop c ops k Kt (iprop(cellInv ER (Rd x) κ ((c : Thread nD τ), .dma s) ∗ MayWait (c : Thread nD τ) (.dma s) () O))
    (fun i => drainInv ER (Rd x) (c : Thread nD τ) O W (.dma s) ((c : Thread nD τ), .dma s) () 0 N 31 i) ?_)
  · intro i k'
    iintro ⟨⟨#HI, #HM⟩, Hd, Hk⟩
    iapply (wp_drainInv_step (E := ER) (Rd := Rd x) (A := cellInv ER (Rd x) κ ((c : Thread nD τ), .dma s))
      (M := MayWait (c : Thread nD τ) (.dma s) () O) (n := 31) i.isLt ?_) $$ [Hd]
    · intro W' T
      exact wait_one x c s κ O (ops i) (hops i) k' Kt W' T (i.val * N)
    · isplitr; · iexact HI
      isplitr; · iexact HM
      iexact Hd
    iexact Hk
  · isplitr; · iexact HΓ
    isplitl [Hpre]
    · iapply (drainInv_zero (E := ER) (Rd := Rd x)); iexact Hpre
    iintro Hd
    icases HΓ with ⟨#HI, #HM⟩
    imod (drainInv_done (E := ER) (Rd := Rd x) (Set.mem_univ κ) rfl (by decide) (expect_dma x c s h)) $$ [Hd] with ⟨HO, Hat, -, Hp⟩
    · isplitr; · iexact HI
      iexact Hd
    iapply Hk
    isplitl [HO]; · iexact HO
    isplitl [Hat]; · iexact Hat
    iapply (Entails.of_eq (all_pay x h P hP)); iexact Hp

variable {κ : GSem nD τ sig → ℕ}

theorem peers_map (c : Dev nD) (f : Dev nD × Fin 31 → Eff F PUnit) : (peers c).map f = (List.finRange 31).map fun i => f (peer c i, i) := by
  unfold peers; rw [List.map_map]; rfl

/-- The signals: each hands the peer what it needs in order to copy here. -/
theorem signal_chain (c : Dev nD) (O : CellTallies nD τ sig Unit) (W : Waits sig Unit) (k : Prog (Eff F) PUnit) (Kt : PUnit → sProp 𝕄) :
    iprop((records x κ ∗ reached ER (rA c) 0 ∗ reached ER (rB c) 0)
        ∗ (owes (c : Thread nD τ) (O + ∑ j, oBar c j) W
            ∗ bigSep Finset.univ fun j => iprop(dutyTok ER (bar (peer c j)) 0 j.rev ∗ (∃ f, slotL c j.rev f) ∗ ∃ f, rowsG c (peer c j) fullShare f))
        ∗ (owes (c : Thread nD τ) O W -∗ Wp c k Kt))
      ⊢ Wp c (chain ((peers c).map fun p => sigOp p.1) k) Kt := by
  rw [peers_map]
  iintro ⟨#HΓ, ⟨HO, Hs⟩, Hk⟩
  iapply (chain_loop c _ k Kt (iprop(records x κ ∗ reached ER (rA c) 0 ∗ reached ER (rB c) 0))
    (fun n => iprop(owes (c : Thread nD τ) (O + ∑ j ∈ finFrom 31 n, oBar c j) W
      ∗ bigSep (finFrom 31 n) fun j => iprop(dutyTok ER (bar (peer c j)) 0 j.rev ∗ (∃ f, slotL c j.rev f) ∗ ∃ f, rowsG c (peer c j) fullShare f))) ?_)
  · intro i k'
    rw [bigSep_finFrom_succ i.isLt]
    iintro ⟨⟨#HR, #HrA, #HrB⟩, ⟨HO, ⟨Ht, Hsl, Hrw⟩, Hs⟩, Hk⟩
    iapply (Rounds.wp_signal 𝒱₀ ER (Rd x) (c : Thread nD τ) none (dst := (peer c i : Thread nD τ)) (sem := barSem) (r := 0) (d := i.rev)
      (κ := κ (bar (peer c i))) (mem_duties x (ours_bar _) _) (amount_bar x (peer c i) i.rev) () (O + ∑ j ∈ finFrom 31 (i.val + 1), oBar c j)
      (add_sum_finFrom_succ O i.isLt _)) $$ [HO Ht Hsl Hrw]
    · isplitr; · iapply (inv_bar x); iexact HR
      isplitl [HO]; · iexact HO
      isplitl [Ht]; · iexact Ht
      isplitl [Hsl Hrw]
      · rw [payload_bar]; unfold barPay; rw [peer_rev]
        isplitl [Hsl]; · iexact Hsl
        isplitl [Hrw]; · iexact Hrw
        isplitr; · iexact HrA
        iexact HrB
      · iapply (records_open x); iexact HR
    iintro HO
    iapply Hk
    isplitl [HO]; · iexact HO
    iexact Hs
  · isplitr; · iexact HΓ
    rw [sum_finFrom_zero, bigSep_finFrom_zero, sum_finFrom_self, bigSep_finFrom_self, add_zero]
    isplitl [HO Hs]; · isplitl [HO] <;> iassumption
    iintro ⟨HO, -⟩
    iapply Hk; iexact HO

theorem rowX_pts (c : Dev nD) (i : Fin 31) (q : PosShare TreeShare) (f : Arr F) :
    ((rowM aX c i).view.loc (c : Thread nD τ) ↦[(rowM aX c i).view.set]{q} f : sProp 𝕄) = rowsX c (peer c i) q f := by
  rw [rowX_set]
theorem slot_pts (d : Dev nD) (k : Fin 31) (f : S31x32x512.Idx → Elt F .bf16) :
    ((slotM aL k).view.loc (d : Thread nD τ) ↦[(slotM aL k).view.set]{fullShare} f : sProp 𝕄) = slotL d k f := by
  rw [slotM_set]
theorem ownG_pts (d e : Dev nD) (q : PosShare TreeShare) (f : Arr F) :
    ((ownM aG e).view.loc (d : Thread nD τ) ↦[(ownM aG e).view.set]{q} f : sProp 𝕄) = rowsG d e q f := by
  rw [ownG_set]

/-- The first copies: each takes the peer's rows of the partial array, to come back with the send, and fills a slot of the peer. -/
theorem copy1_chain (c : Dev nD) (O : CellTallies nD τ sig Unit) (W : Waits sig Unit) (k : Prog (Eff F) PUnit) (Kt : PUnit → sProp 𝕄) :
    iprop((records x κ ∗ reached ER (sA c) 0)
        ∗ (owes (c : Thread nD τ) (O + ∑ j, oA c j) W
            ∗ bigSep Finset.univ fun j => iprop(dutyTok ER (sA c) 0 j ∗ dutyTok ER (rA (peer c j)) 0 j ∗ reached ER (rA (peer c j)) 0
                ∗ rowsX c (peer c j) fullShare (x c) ∗ ∃ f, slotL (peer c j) j f))
        ∗ ((owes (c : Thread nD τ) O W ∗ cred (tallyAt (sA c) () (31 * N))) -∗ Wp c k Kt))
      ⊢ Wp c (chain ((peers c).map fun p => copy1 aX (Memref.isWhole_whole _) aL (Memref.isWhole_whole _) dSA dRA c p) k) Kt := by
  rw [peers_map]
  iintro ⟨#HΓ, ⟨HO, Hs⟩, Hk⟩
  iapply (chain_loop c _ k Kt (iprop(records x κ ∗ reached ER (sA c) 0))
    (fun n => iprop(owes (c : Thread nD τ) (O + ∑ j ∈ finFrom 31 n, oA c j) W ∗ cred (tallyAt (sA c) () (n * N))
      ∗ bigSep (finFrom 31 n) fun j => iprop(dutyTok ER (sA c) 0 j ∗ dutyTok ER (rA (peer c j)) 0 j ∗ reached ER (rA (peer c j)) 0
          ∗ rowsX c (peer c j) fullShare (x c) ∗ ∃ f, slotL (peer c j) j f))) ?_)
  · intro i k'
    rw [bigSep_finFrom_succ i.isLt, cred_tallyAt_succ]
    iintro ⟨⟨#HR, #HrS⟩, ⟨HO, Hc, ⟨HtS, HtR, #HrR, Hx, ⟨%f, Hsl⟩⟩, Hs⟩, Hk⟩
    iapply (Rounds.wp_send_pointsTo 𝒱₀ ER (Rd x) (c : Thread nD τ) none (c' := (peer c i : Thread nD τ)) (src := rowM aX c i) (dst := slotM aL i)
      (sS := .dma dSA) (sem := .dma dRA) (q := fullShare) (fs := x c) (κ₁ := κ (sA c)) (κ₂ := κ (rA (peer c i)))
      (r₁ := 0) (r₂ := 0) (d₁ := i) (d₂ := i) (fd := f)
      (mem_duties x (ours_sA _) _) (mem_duties x (ours_rA _) _) () () N (credit_slot i) (amount_dma x c dSA i) (amount_dma x (peer c i) dRA i)
      (O + ∑ j ∈ finFrom 31 (i.val + 1), oA c j) (add_sum_finFrom_succ O i.isLt _) (W := W)
      (by rw [payload_sA, rowX_pts]; exact BI.Entails.refl _)
      (by rw [payload_rA, slot_pts]; exact Entails.of_eq (pointsTo_congr (landed1 x c i f)))) $$ [Hx Hsl HO HtS HtR]
    · isplitr; · iapply (inv_sA x); iexact HR
      isplitr; · iapply (inv_rA x); iexact HR
      isplitl [Hx]; · rw [rowX_pts]; iexact Hx
      isplitl [Hsl]; · rw [slot_pts]; iexact Hsl
      isplitl [HO]; · iexact HO
      isplitl [HtS]; · iexact HtS
      isplitr; · iexact HrS
      isplitl [HtR]; · iexact HtR
      iexact HrR
    iintro ⟨Hc1, HO⟩
    iapply Hk
    isplitl [HO]; · iexact HO
    isplitl [Hc Hc1]; · isplitl [Hc] <;> iassumption
    iexact Hs
  · isplitr; · iexact HΓ
    rw [sum_finFrom_zero, bigSep_finFrom_zero, sum_finFrom_self, bigSep_finFrom_self, add_zero, cred_tallyAt_zero_mul]
    isplitl [HO Hs]
    · isplitl [HO]; · iexact HO
      isplitr; · iempintro
      iexact Hs
    iintro ⟨HO, Hc, -⟩
    iapply Hk
    isplitl [HO] <;> iassumption

/-- The second copies: each lends a part of a share of the device's own rows, to come back with the send, and fills the same rows of the peer. -/
theorem copy2_chain (c : Dev nD) (O : CellTallies nD τ sig Unit) (W : Waits sig Unit) (k : Prog (Eff F) PUnit) (Kt : PUnit → sProp 𝕄) :
    iprop((records x κ ∗ reached ER (sB c) 0)
        ∗ (owes (c : Thread nD τ) (O + ∑ j, oB c j) W
            ∗ bigSep Finset.univ fun j => iprop(dutyTok ER (sB c) 0 j ∗ dutyTok ER (rB (peer c j)) 0 j ∗ reached ER (rB (peer c j)) 0
                ∗ rowsG c c (lent j) (gath x) ∗ ∃ f, rowsG (peer c j) c fullShare f))
        ∗ ((owes (c : Thread nD τ) O W ∗ cred (tallyAt (sB c) () (31 * N))) -∗ Wp c k Kt))
      ⊢ Wp c (chain ((peers c).map fun p => copy2 aG (Memref.isWhole_whole _) dSB dRB c p.1) k) Kt := by
  rw [peers_map]
  iintro ⟨#HΓ, ⟨HO, Hs⟩, Hk⟩
  iapply (chain_loop c _ k Kt (iprop(records x κ ∗ reached ER (sB c) 0))
    (fun n => iprop(owes (c : Thread nD τ) (O + ∑ j ∈ finFrom 31 n, oB c j) W ∗ cred (tallyAt (sB c) () (n * N))
      ∗ bigSep (finFrom 31 n) fun j => iprop(dutyTok ER (sB c) 0 j ∗ dutyTok ER (rB (peer c j)) 0 j ∗ reached ER (rB (peer c j)) 0
          ∗ rowsG c c (lent j) (gath x) ∗ ∃ f, rowsG (peer c j) c fullShare f))) ?_)
  · intro i k'
    rw [bigSep_finFrom_succ i.isLt, cred_tallyAt_succ]
    iintro ⟨⟨#HR, #HrS⟩, ⟨HO, Hc, ⟨HtS, HtR, #HrR, Hx, ⟨%f, Hsl⟩⟩, Hs⟩, Hk⟩
    iapply (Rounds.wp_send_pointsTo 𝒱₀ ER (Rd x) (c : Thread nD τ) none (c' := (peer c i : Thread nD τ)) (src := ownM aG c) (dst := ownM aG c)
      (sS := .dma dSB) (sem := .dma dRB) (q := lent i) (fs := gath x) (κ₁ := κ (sB c)) (κ₂ := κ (rB (peer c i)))
      (r₁ := 0) (r₂ := 0) (d₁ := i) (d₂ := i) (fd := f)
      (mem_duties x (ours_sB _) _) (mem_duties x (ours_rB _) _) () () N (credit_ownG c) (amount_dma x c dSB i) (amount_dma x (peer c i) dRB i)
      (O + ∑ j ∈ finFrom 31 (i.val + 1), oB c j) (add_sum_finFrom_succ O i.isLt _) (W := W)
      (by rw [payload_sB, ownG_pts]; exact BI.Entails.refl _)
      (by rw [payload_rB, ownG_pts]; unfold rBPay; rw [peer_rev]; exact Entails.of_eq (pointsTo_congr (landed2_eq x c f)))) $$ [Hx Hsl HO HtS HtR]
    · isplitr; · iapply (inv_sB x); iexact HR
      isplitr; · iapply (inv_rB x); iexact HR
      isplitl [Hx]; · rw [ownG_pts]; iexact Hx
      isplitl [Hsl]; · rw [ownG_pts]; iexact Hsl
      isplitl [HO]; · iexact HO
      isplitl [HtS]; · iexact HtS
      isplitr; · iexact HrS
      isplitl [HtR]; · iexact HtR
      iexact HrR
    iintro ⟨Hc1, HO⟩
    iapply Hk
    isplitl [HO]; · iexact HO
    isplitl [Hc Hc1]; · isplitl [Hc] <;> iassumption
    iexact Hs
  · isplitr; · iexact HΓ
    rw [sum_finFrom_zero, bigSep_finFrom_zero, sum_finFrom_self, bigSep_finFrom_self, add_zero, cred_tallyAt_zero_mul]
    isplitl [HO Hs]
    · isplitl [HO]; · iexact HO
      isplitr; · iempintro
      iexact Hs
    iintro ⟨HO, Hc, -⟩
    iapply Hk
    isplitl [HO] <;> iassumption

/-! ## Buffers in pieces -/

/-- A family over the devices: the device's own member, and its peers' by offset. -/
theorem apart (c : Dev nD) (Φ : Dev nD → sProp 𝕄) : bigSep Finset.univ Φ = iprop(Φ c ∗ bigSep Finset.univ fun j : Fin 31 => Φ (peer c j)) := by
  rw [BI.bigSep_erase (Finset.mem_univ c), erase_eq, BI.bigSep_map]; rfl

/-- A family over the offsets, read backwards. -/
theorem backwards (Φ : Fin 31 → sProp 𝕄) : bigSep Finset.univ Φ = bigSep Finset.univ fun j : Fin 31 => Φ j.rev := bigSep_univ_equiv Fin.revPerm Φ

/-- The partial array in its thirty-two blocks of rows: the device's own, and those of its peers by offset. -/
theorem inRowsX (c : Dev nD) (f : Arr F) (q : PosShare TreeShare) :
    ((c : Thread nD τ).loc cc0_stg0_0 ↦{q} f : sProp 𝕄) = iprop(rowsX c c q f ∗ bigSep Finset.univ fun j : Fin 31 => rowsX c (peer c j) q f) := by
  rw [Ring.pointsTo_blocks rows rows_disjoint rows_cover]; exact apart c fun e => rowsX c e q f

/-- The gathered array likewise. -/
theorem inRowsG (c : Dev nD) (f : Arr F) (q : PosShare TreeShare) :
    ((c : Thread nD τ).loc cc0_scratch1 ↦{q} f : sProp 𝕄) = iprop(rowsG c c q f ∗ bigSep Finset.univ fun j : Fin 31 => rowsG c (peer c j) q f) := by
  rw [Ring.pointsTo_blocks rows rows_disjoint rows_cover]; exact apart c fun e => rowsG c e q f

/-- The landing array in its slots. -/
theorem inSlots (c : Dev nD) (f : S31x32x512.Idx → Elt F .bf16) :
    ((c : Thread nD τ).loc cc0_scratch0 ↦{fullShare} f : sProp 𝕄) = bigSep Finset.univ fun k : Fin 31 => slotL c k f := by
  rw [Ring.pointsTo_blocks slots slots_disjoint slots_cover]

/-- A share is its two halves. -/
theorem halves (c e : Dev nD) (f : Arr F) :
    (rowsG c e fullShare f : sProp 𝕄) = iprop(rowsG c e (fullShare : PosShare TreeShare).left f ∗ rowsG c e (fullShare : PosShare TreeShare).right f) :=
  BI.equiv_iff.mp ⟨(pointsTo_share (PosShare.mem_left_op_right _)).1, (pointsTo_share (PosShare.mem_left_op_right _)).2⟩

/-- The right half of a share of the device's own rows in its thirty-one parts. -/
theorem parts (c : Dev nD) (f : Buf (Elt F) ((c : Thread nD τ).loc cc0_scratch1)) :
    (rowsG c c (fullShare : PosShare TreeShare).right f : sProp 𝕄) = bigSep Finset.univ fun j : Fin 31 => rowsG c c (lent j) f := by
  unfold rowsG lent
  rw [pointsTo_piecesOf (ℓ := (c : Thread nD τ).loc cc0_scratch1) (o := 31)]

/-- A share of the device's own rows is its left half and the thirty-one parts of its right half. -/
theorem lend (c : Dev nD) (f : Arr F) :
    (rowsG c c fullShare f : sProp 𝕄)
      = iprop(rowsG c c (fullShare : PosShare TreeShare).left f ∗ bigSep Finset.univ fun j : Fin 31 => rowsG c c (lent j) f) := by
  rw [halves, parts]

/-- Two families over the offsets, as one. -/
theorem zip (Φ Ψ : Fin 31 → sProp 𝕄) : iprop(bigSep Finset.univ Φ ∗ bigSep Finset.univ Ψ) ⊢ bigSep Finset.univ fun j => iprop(Φ j ∗ Ψ j) :=
  Entails.of_eq (bigSep_sep' _ _ _).symm

end Families

end Cert.KernelIdeal.Own
-- ==== Proof.KernelIdeal.Talk.lean ====
/-
  The kernel function at a symbolic device, from what the launch and its region give it to what it leaves: every semaphore back at zero,
  the partial array as it was, the result in the output array.
-/
module

public import proofs.«01_k».proof.Proof.KernelIdeal.Body

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

variable (x : Dev nD → Arr F)

/-- The right to pay the duties that device `c` pays: one on each peer's barrier and receive semaphores, and all on its own send semaphores. -/
def tokens (c : Dev nD) : sProp 𝕄 :=
  iprop((bigSep Finset.univ fun j : Fin 31 => dutyTok ER (bar (peer c j)) 0 j.rev)
    ∗ (bigSep Finset.univ fun j : Fin 31 => dutyTok ER (sA c) 0 j)
    ∗ (bigSep Finset.univ fun j : Fin 31 => dutyTok ER (rA (peer c j)) 0 j)
    ∗ (bigSep Finset.univ fun j : Fin 31 => dutyTok ER (sB c) 0 j)
    ∗ (bigSep Finset.univ fun j : Fin 31 => dutyTok ER (rB (peer c j)) 0 j))

/-- Known to device `c` in the kernel: the cells, its own four transfer cells open, the levels. -/
def known (κ : GSem nD τ sig → ℕ) (c : Dev nD) : sProp 𝕄 :=
  iprop(records x κ ∗ reached ER (sA c) 0 ∗ reached ER (rA c) 0 ∗ reached ER (sB c) 0 ∗ reached ER (rB c) 0 ∗ levAts L lv)

instance known_persistent (κ : GSem nD τ sig → ℕ) (c : Dev nD) : BI.Persistent (known x κ c) := by unfold known; infer_instance

/-- Device `c` at the head of its five rounds, with what it waits and pays with. -/
def ready (c : Dev nD) : sProp 𝕄 :=
  iprop(atPos ER (bar c) 0 ∅ 0 ∗ atPos ER (sA c) 0 ∅ 0 ∗ atPos ER (rA c) 0 ∅ 0 ∗ atPos ER (sB c) 0 ∅ 0 ∗ atPos ER (rB c) 0 ∅ 0
    ∗ tokens c ∗ cred (tallyAt (bar c) () 31) ∗ cred (tallyAt (rA c) () (31 * N)) ∗ cred (tallyAt (rB c) () (31 * N)))

/-- The four arrays at the kernel's entry: the partial array at `x c`, the others at anything. -/
def arrays (c : Dev nD) : sProp 𝕄 :=
  iprop(((c : Thread nD τ).loc cc0_stg0_0 ↦{fullShare} x c)
    ∗ (∃ f : S1024x512.Idx → Elt F .f32, (c : Thread nD τ).loc cc0_stg1_0 ↦{fullShare} f)
    ∗ (∃ f : S31x32x512.Idx → Elt F .bf16, (c : Thread nD τ).loc cc0_scratch0 ↦{fullShare} f)
    ∗ (∃ f : S1024x512.Idx → Elt F .bf16, (c : Thread nD τ).loc cc0_scratch1 ↦{fullShare} f))

/-- What the kernel leaves: every semaphore at zero, the partial array as it was, the output array at the result, nothing owed. -/
def bodyPost (c : Dev nD) : sProp 𝕄 :=
  iprop((semVal (bar c) 0 ∗ semVal (sA c) 0 ∗ semVal (rA c) 0 ∗ semVal (sB c) 0 ∗ semVal (rB c) 0)
    ∗ ((c : Thread nD τ).loc cc0_stg0_0 ↦{fullShare} x c)
    ∗ ((c : Thread nD τ).loc cc0_stg1_0 ↦{fullShare} out x)
    ∗ (∃ f : S31x32x512.Idx → Elt F .bf16, (c : Thread nD τ).loc cc0_scratch0 ↦{fullShare} f)
    ∗ (∃ f : S1024x512.Idx → Elt F .bf16, (c : Thread nD τ).loc cc0_scratch1 ↦{fullShare} f)
    ∗ ∃ W, owes (c : Thread nD τ) (0 : CellTallies nD τ sig Unit) W)

/-- An array held whole, in the pieces that the barrier's duties hand to the peers. -/
theorem give_slots (c : Dev nD) (f : S31x32x512.Idx → Elt F .bf16) :
    ((c : Thread nD τ).loc cc0_scratch0 ↦{fullShare} f : sProp 𝕄) ⊢ bigSep Finset.univ fun j : Fin 31 => iprop(∃ f, slotL c j.rev f) := by
  rw [inSlots, backwards]
  exact bigSep_mono fun j _ => (show (slotL c j.rev f : sProp 𝕄) ⊢ iprop(∃ f, slotL c j.rev f) from by iintro H; iexists f; iexact H)
theorem give_rows (c : Dev nD) (f : S1024x512.Idx → Elt F .bf16) :
    ((c : Thread nD τ).loc cc0_scratch1 ↦{fullShare} f : sProp 𝕄)
      ⊢ iprop(rowsG c c fullShare f ∗ bigSep Finset.univ fun j : Fin 31 => iprop(∃ f, rowsG c (peer c j) fullShare f)) := by
  rw [inRowsG]
  exact sep_mono_right (bigSep_mono fun j _ =>
    (show (rowsG c (peer c j) fullShare f : sProp 𝕄) ⊢ iprop(∃ f, rowsG c (peer c j) fullShare f) from by iintro H; iexists f; iexact H))

/-- The barrier's payloads, each kind together: the slots and the rows at the peers, and that their receive semaphores are open. -/
theorem got_bar (c : Dev nD) : (bigSep Finset.univ fun j : Fin 31 => (barPay c j : sProp 𝕄))
    ⊢ iprop((bigSep Finset.univ fun j : Fin 31 => iprop(∃ f, slotL (peer c j) j f))
      ∗ (bigSep Finset.univ fun j : Fin 31 => iprop(∃ f, rowsG (peer c j) c fullShare f))
      ∗ (bigSep Finset.univ fun j : Fin 31 => reached ER (rA (peer c j)) 0) ∗ (bigSep Finset.univ fun j : Fin 31 => reached ER (rB (peer c j)) 0)) := by
  unfold barPay
  rw [bigSep_sep', bigSep_sep', bigSep_sep']

/-- The rows that the second copies have filled, by the peer they come from. -/
theorem got_rows (c : Dev nD) : (bigSep Finset.univ fun j : Fin 31 => (rBPay x c j : sProp 𝕄))
    = bigSep Finset.univ fun j : Fin 31 => rowsG c (peer c j) fullShare (gath x) := by
  unfold rBPay; exact (backwards fun j => rowsG c (peer c j) fullShare (gath x)).symm

/-- The halves of the peers' rows. -/
theorem halve_rows (c : Dev nD) (f : Arr F) : (bigSep Finset.univ fun j : Fin 31 => (rowsG c (peer c j) fullShare f : sProp 𝕄))
    = iprop((bigSep Finset.univ fun j : Fin 31 => rowsG c (peer c j) (fullShare : PosShare TreeShare).left f)
      ∗ bigSep Finset.univ fun j : Fin 31 => rowsG c (peer c j) (fullShare : PosShare TreeShare).right f) := by
  rw [bigSep_congr fun j _ => halves c (peer c j) f, bigSep_sep']

/-- The landing array holding what has landed in each slot. -/
theorem landed_all (c : Dev nD) : (bigSep Finset.univ fun j : Fin 31 => (rAPay x c j : sProp 𝕄))
    = ((c : Thread nD τ).loc cc0_scratch0 ↦{fullShare} land x c) := by
  unfold rAPay; exact (inSlots c (land x c)).symm

/-- The partial array back whole. -/
theorem back_whole (c : Dev nD) : iprop(rowsX c c fullShare (x c) ∗ bigSep Finset.univ fun j : Fin 31 => (sAPay x c j : sProp 𝕄))
    = ((c : Thread nD τ).loc cc0_stg0_0 ↦{fullShare} x c) := by
  unfold sAPay; exact (inRowsX c (x c) fullShare).symm

/-- The waits of the three families that go one copy at a time each count one copy. -/
theorem sent1_spec (c : Dev nD) (i : Fin 31) (K : PUnit → sProp 𝕄) :
    wpE (defs₀ (F := F)) 𝒱₀ (c : Thread nD τ) none Set.univ (sent1 aX (Memref.isWhole_whole _) aL (Memref.isWhole_whole _) dSA c i) K
      = waitSpec (c : Thread nD τ) Set.univ (.dma dSA) N K := by
  unfold sent1; rw [wpE_waitDma2_eq, credit_rowX]
theorem landed2_spec (c : Dev nD) (i : Fin 31) (K : PUnit → sProp 𝕄) :
    wpE (defs₀ (F := F)) 𝒱₀ (c : Thread nD τ) none Set.univ (landed2 aG (Memref.isWhole_whole _) dRB c i) K
      = waitSpec (c : Thread nD τ) Set.univ (.dma dRB) N K := by
  unfold landed2; rw [wpE_waitDma2_eq, credit_rowG]
theorem sent2_spec (c : Dev nD) (K : PUnit → sProp 𝕄) :
    wpE (defs₀ (F := F)) 𝒱₀ (c : Thread nD τ) none Set.univ (sent2 aG (Memref.isWhole_whole _) dSB c) K
      = waitSpec (c : Thread nD τ) Set.univ (.dma dSB) N K := by
  unfold sent2; rw [wpE_waitDma2_eq, credit_ownG]

/-- The rows that the kernel loads and stores of the gathered array are the device's own. -/
theorem access_set (c : Dev nD) :
    (aG.access (Rect.unit (s := S1024x512) (k0_off2 c) S32x512.size (k0_off2_inb c))).set = rows c :=
  (View.set_slice_whole _ _).trans (rowRect_set c (k0_off2_eq c) _)

/-- A load of a whole array reads it, and a store of one leaves what is stored. -/
theorem read_landing (f : S31x32x512.Idx → Elt F .bf16) :
    (aL.access (Rect.unit (s := S31x32x512) ![0, 0, 0] S31x32x512.size inb_S31x32x512_S31x32x512_0_0_0)).read (Elt F) f = f :=
  Memref.read_access_unit_zero (Elt F) cc0_scratch0 (off := ![0, 0, 0]) (by decide) _ f
theorem read_gathered (f : Arr F) :
    (aG.access (Rect.unit (s := S1024x512) ![0, 0] S1024x512.size inb_S1024x512_S1024x512_0_0)).read (Elt F) f = f :=
  Memref.read_access_unit_zero (Elt F) cc0_scratch1 (off := ![0, 0]) (by decide) _ f
theorem write_out (f w : S1024x512.Idx → Elt F .f32) :
    (aO.access (Rect.unit (s := S1024x512) ![0, 0] S1024x512.size inb_S1024x512_S1024x512_0_0)).write (Elt F) f w Finset.univ = w :=
  Memref.write_access_unit_zero_univ (Elt F) cc0_stg1_0 (off := ![0, 0]) (by decide) _ f w

/-- The device's own rows after its store. -/
theorem stored_rows (c : Dev nD) (f : Arr F) :
    ((c : Thread nD τ).loc cc0_scratch1 ↦[rows c]{fullShare}
      ((aG.access (Rect.unit (s := S1024x512) (k0_off2 c) S32x512.size (k0_off2_inb c))).write (Elt F) f
        (k0_pay2 (k0_pay1 (part (x c) c)) (land x c)) Finset.univ) : sProp 𝕄) = rowsG c c fullShare (gath x) :=
  pointsTo_congr (stored x c f)

set_option maxHeartbeats 1600000 in
/-- **The kernel function at a symbolic device.** -/
theorem bodyRun (κ : GSem nD τ sig → ℕ) (c : Dev nD) (W : Waits sig Unit) (Kt : PUnit → sProp 𝕄) :
    iprop(known x κ c ∗ ready c ∗ arrays x c ∗ owes (c : Thread nD τ) (O₀ c) W ∗ (bodyPost x c -∗ Kt ⟨⟩))
      ⊢ Wp c (cc0_body (F := F) aX (Memref.isWhole_whole _) aO (Memref.isWhole_whole _) aL (Memref.isWhole_whole _) aG (Memref.isWhole_whole _)
          cc0_scratch2 cc0_scratch3 cc0_scratch4 cc0_scratch5) Kt := by
  rw [body_eq_loop]
  unfold loopOver Wp
  rw [wp_deviceId]
  unfold known ready tokens arrays O₀
  iintro ⟨⟨#HR, #HrSA, #HrRA, #HrSB, #HrRB, #Hlev⟩,
    ⟨Hbar, HsA, HrA, HsB, HrB, ⟨HtBar, HtSA, HtRA, HtSB, HtRB⟩, HcBar, HcRA, HcRB⟩, ⟨Hx, ⟨%fo, Ho⟩, ⟨%fl, Hl⟩, ⟨%fg, Hg⟩⟩, HO, Hk⟩
  -- the signals hand out the landing array's slots and the peers' rows of the gathered array
  ihave Hl := (give_slots c fl) $$ Hl
  ihave Hg := (give_rows c fg) $$ Hg
  icases Hg with ⟨Hgo, Hg⟩
  iapply (signal_chain x (κ := κ) c ((∑ j, oB c j) + ∑ j, oA c j) W _ Kt)
  isplitr
  · isplitr; · iexact HR
    isplitr; · iexact HrRA
    iexact HrRB
  isplitl [HO HtBar Hl Hg]
  · isplitl [HO]; · iexact HO
    iapply (zip (fun j => dutyTok ER (bar (peer c j)) 0 j.rev) (fun j => iprop((∃ f, slotL c j.rev f) ∗ ∃ f, rowsG c (peer c j) fullShare f)))
    isplitl [HtBar]; · iexact HtBar
    iapply (zip (fun j => iprop(∃ f, slotL c j.rev f)) (fun j => iprop(∃ f, rowsG c (peer c j) fullShare f)))
    isplitl [Hl]; · iexact Hl
    iexact Hg
  iintro HO
  -- the barrier brings the peers' slots and rows
  iapply (Rounds.wp_wait_rest_token 𝒱₀ ER (Rd x) (c : Thread nD τ) none (κ := κ (bar c))
      (wpE_semWait_eq 𝒱₀ (c : Thread nD τ) none Set.univ) (Set.mem_univ _) () (O := (∑ j, oB c j) + ∑ j, oA c j) (W := W) (R := 0) (m := 0) (T := ∅)
      ((Nat.zero_add 31).trans (expect_bar x c).symm)) $$ [HcBar HO Hbar]
  · isplitr; · iapply (inv_bar x); iexact HR
    isplitl [HcBar]; · iexact HcBar
    isplitl [HO]; · iexact HO
    isplitr; · iapply (mayWait_bar c); iexact Hlev
    iexact Hbar
  iintro ⟨HO, Hbar, -, Hpay⟩
  rw [Finset.sdiff_empty]
  ihave Hpay := (Entails.of_eq (all_pay x (ours_bar c) (barPay c) (payload_bar x c))) $$ Hpay
  ihave Hpay := (got_bar c) $$ Hpay
  icases Hpay with ⟨Hsl, Hrw, Hoa, Hob⟩
  -- the first copies
  ihave Hx := (Entails.of_eq (inRowsX c (x c) fullShare)) $$ Hx
  icases Hx with ⟨Hxo, Hx⟩
  iapply (copy1_chain x (κ := κ) c (∑ j, oB c j) (insert (.reg barSem, ()) W) _ Kt)
  isplitr
  · isplitr; · iexact HR
    iexact HrSA
  isplitl [HO HtSA HtRA Hoa Hx Hsl]
  · isplitl [HO]; · iexact HO
    iapply (zip (fun j => dutyTok ER (sA c) 0 j) (fun j => iprop(dutyTok ER (rA (peer c j)) 0 j ∗ reached ER (rA (peer c j)) 0
                ∗ rowsX c (peer c j) fullShare (x c) ∗ ∃ f, slotL (peer c j) j f)))
    isplitl [HtSA]; · iexact HtSA
    iapply (zip (fun j => dutyTok ER (rA (peer c j)) 0 j) (fun j => iprop(reached ER (rA (peer c j)) 0
                ∗ rowsX c (peer c j) fullShare (x c) ∗ ∃ f, slotL (peer c j) j f)))
    isplitl [HtRA]; · iexact HtRA
    iapply (zip (fun j => reached ER (rA (peer c j)) 0) (fun j => iprop(rowsX c (peer c j) fullShare (x c) ∗ ∃ f, slotL (peer c j) j f)))
    isplitl [Hoa]; · iexact Hoa
    iapply (zip (fun j => rowsX c (peer c j) fullShare (x c)) (fun j => iprop(∃ f, slotL (peer c j) j f)))
    isplitl [Hx]; · iexact Hx
    iexact Hsl
  iintro ⟨HO, HcSA⟩
  -- all of what the peers have sent has landed
  iapply (Rounds.wp_wait_rest_token 𝒱₀ ER (Rd x) (c : Thread nD τ) none (κ := κ (rA c)) (k' := 31 * N)
      (fun K => (wpE_waitDma2_eq 𝒱₀ (c : Thread nD τ) none Set.univ K).trans (by rw [credit_all])) (Set.mem_univ _) () (O := ∑ j, oB c j)
      (W := insert (.reg barSem, ()) W) (R := 0) (m := 0) (T := ∅)
      ((Nat.zero_add _).trans (expect_dma x c dRA (ours_rA c)).symm)) $$ [HcRA HO HrA]
  · isplitr; · iapply (inv_rA x); iexact HR
    isplitl [HcRA]; · iexact HcRA
    isplitl [HO]; · iexact HO
    isplitr; · iapply (mayWait_B (lv_rA c) (le_refl 2) Finset.univ); iexact Hlev
    iexact HrA
  iintro ⟨HO, HrA, -, Hpay⟩
  rw [Finset.sdiff_empty]
  ihave Hpay := (Entails.of_eq (all_pay x (ours_rA c) (rAPay x c) (payload_rA x c))) $$ Hpay
  ihave Hl := (Entails.of_eq (landed_all x c)) $$ Hpay
  -- the first copies have been sent: the partial array is back whole
  iapply (drain_chain x c dSA (ours_sA c) (κ (sA c)) (∑ j, oB c j) (insert (.dma dRA, ()) (insert (.reg barSem, ()) W)) _
    (sent1_spec c) (sAPay x c) (payload_sA x c) _ Kt)
  isplitr
  · isplitr; · iapply (inv_sA x); iexact HR
    iapply (mayWait_B (lv_sA c) (by decide) Finset.univ); iexact Hlev
  isplitl [HO HcSA HsA]
  · isplitl [HO]; · iexact HO
    isplitl [HcSA]; · iexact HcSA
    iexact HsA
  iintro ⟨HO, HsA, Hx⟩
  ihave Hx := (Entails.of_eq (back_whole x c)) $$ [Hxo Hx]
  · isplitl [Hxo]; · iexact Hxo
    iexact Hx
  -- the partial array's own rows and what has landed are read, and the rows of the result stored
  iapply (wp_load_rect 𝒱₀ (c : Thread nD τ) none Set.univ (m := aX) (r := Rect.unit (s := S1024x512) (k0_off2 c) S32x512.size (k0_off2_inb c))
    (S := Finset.univ) (q := fullShare) (f := x c) (Finset.subset_univ _)) $$ Hx
  iintro Hx
  rw [read_own]
  iapply (wp_load_rect 𝒱₀ (c : Thread nD τ) none Set.univ (m := aL) (r := Rect.unit (s := S31x32x512) ![0, 0, 0] S31x32x512.size inb_S31x32x512_S31x32x512_0_0_0)
    (S := Finset.univ) (q := fullShare) (f := land x c) (Finset.subset_univ _)) $$ Hl
  iintro Hl
  rw [read_landing]
  iapply (wp_load_rect 𝒱₀ (c : Thread nD τ) none Set.univ (m := aG) (r := Rect.unit (s := S1024x512) (k0_off2 c) S32x512.size (k0_off2_inb c))
    (S := rows c) (q := fullShare) (f := fg) (access_set c).subset) $$ Hgo
  iintro Hgo
  iapply (wp_store 𝒱₀ (c : Thread nD τ) none Set.univ (m := aG) (r := Rect.unit (s := S1024x512) (k0_off2 c) S32x512.size (k0_off2_inb c))
    (S := rows c) (f := fg) (access_set c).subset) $$ Hgo
  iintro Hgo
  ihave Hgo := (Entails.of_eq (stored_rows x c fg)) $$ Hgo
  ihave Hgo := (Entails.of_eq (lend c (gath x))) $$ Hgo
  icases Hgo with ⟨Hgl, Hgr⟩
  -- the second copies
  iapply (copy2_chain x (κ := κ) c 0 (insert (.dma dSA, ()) (insert (.dma dRA, ()) (insert (.reg barSem, ()) W))) _ Kt)
  isplitr
  · isplitr; · iexact HR
    iexact HrSB
  isplitl [HO HtSB HtRB Hob Hgr Hrw]
  · isplitl [HO]; · rw [zero_add]; iexact HO
    iapply (zip (fun j => dutyTok ER (sB c) 0 j) (fun j => iprop(dutyTok ER (rB (peer c j)) 0 j ∗ reached ER (rB (peer c j)) 0
                ∗ rowsG c c (lent j) (gath x) ∗ ∃ f, rowsG (peer c j) c fullShare f)))
    isplitl [HtSB]; · iexact HtSB
    iapply (zip (fun j => dutyTok ER (rB (peer c j)) 0 j) (fun j => iprop(reached ER (rB (peer c j)) 0
                ∗ rowsG c c (lent j) (gath x) ∗ ∃ f, rowsG (peer c j) c fullShare f)))
    isplitl [HtRB]; · iexact HtRB
    iapply (zip (fun j => reached ER (rB (peer c j)) 0) (fun j => iprop(rowsG c c (lent j) (gath x) ∗ ∃ f, rowsG (peer c j) c fullShare f)))
    isplitl [Hob]; · iexact Hob
    iapply (zip (fun j => rowsG c c (lent j) (gath x)) (fun j => iprop(∃ f, rowsG (peer c j) c fullShare f)))
    isplitl [Hgr]; · iexact Hgr
    iexact Hrw
  iintro ⟨HO, HcSB⟩
  -- the peers' rows of the result have landed
  iapply (drain_chain x c dRB (ours_rB c) (κ (rB c)) 0 (insert (.dma dSA, ()) (insert (.dma dRA, ()) (insert (.reg barSem, ()) W))) _
    (landed2_spec c) (rBPay x c) (payload_rB x c) _ Kt)
  isplitr
  · isplitr; · iapply (inv_rB x); iexact HR
    rw [MayWait_zero]; iempintro
  isplitl [HO HcRB HrB]
  · isplitl [HO]; · iexact HO
    isplitl [HcRB]; · iexact HcRB
    iexact HrB
  iintro ⟨HO, HrB, Hrw⟩
  ihave Hrw := (Entails.of_eq ((got_rows x c).trans (halve_rows c (gath x)))) $$ Hrw
  icases Hrw with ⟨Hrl, Hrr⟩
  ihave Hg := (Entails.of_eq (inRowsG c (gath x) (fullShare : PosShare TreeShare).left).symm) $$ [Hgl Hrl]
  · isplitl [Hgl]; · iexact Hgl
    iexact Hrl
  -- the whole gathered array is read, at the half share that is not lent, and the result stored
  iapply (wp_load_rect 𝒱₀ (c : Thread nD τ) none Set.univ (m := aG) (r := Rect.unit (s := S1024x512) ![0, 0] S1024x512.size inb_S1024x512_S1024x512_0_0)
    (S := Finset.univ) (q := (fullShare : PosShare TreeShare).left) (f := gath x)
    (Finset.subset_univ _)) $$ Hg
  iintro Hg
  rw [read_gathered]
  iapply (wp_load_rect 𝒱₀ (c : Thread nD τ) none Set.univ (m := aO) (r := Rect.unit (s := S1024x512) ![0, 0] S1024x512.size inb_S1024x512_S1024x512_0_0)
    (S := Finset.univ) (q := fullShare) (f := fo) (Finset.subset_univ _)) $$ Ho
  iintro Ho
  iapply (wp_store 𝒱₀ (c : Thread nD τ) none Set.univ (m := aO) (r := Rect.unit (s := S1024x512) ![0, 0] S1024x512.size inb_S1024x512_S1024x512_0_0)
    (S := Finset.univ) (f := fo) (Finset.subset_univ _)) $$ Ho
  iintro Ho
  rw [write_out]
  -- the second copies have been sent: the gathered array is back whole
  iapply (drain_chain x c dSB (ours_sB c) (κ (sB c)) 0
    (insert (.dma dRB, ()) (insert (.dma dSA, ()) (insert (.dma dRA, ()) (insert (.reg barSem, ()) W)))) _
    (fun _ => sent2_spec c) (sBPay x c) (payload_sB x c) _ Kt)
  isplitr
  · isplitr; · iapply (inv_sB x); iexact HR
    rw [MayWait_zero]; iempintro
  isplitl [HO HcSB HsB]
  · isplitl [HO]; · iexact HO
    isplitl [HcSB]; · iexact HcSB
    iexact HsB
  iintro ⟨HO, HsB, Hgr⟩
  ihave Hg := (Entails.of_eq (inRowsG c (gath x) (fullShare : PosShare TreeShare).left)) $$ Hg
  icases Hg with ⟨Hgl, Hrl⟩
  ihave Hgo := (Entails.of_eq (lend c (gath x)).symm) $$ [Hgl Hgr]
  · isplitl [Hgl]; · iexact Hgl
    unfold sBPay; iexact Hgr
  ihave Hrw := (Entails.of_eq (halve_rows c (gath x)).symm) $$ [Hrl Hrr]
  · isplitl [Hrl]; · iexact Hrl
    iexact Hrr
  ihave Hg := (Entails.of_eq (inRowsG c (gath x) fullShare).symm) $$ [Hgo Hrw]
  · isplitl [Hgo]; · iexact Hgo
    iexact Hrw
  -- every cell is closed
  unfold Wp
  rw [wp_ret]
  imod (close x (κ (bar c)) (bar c)) $$ [Hbar] with Hbar
  · isplitr; · iapply (inv_bar x); iexact HR
    iexact Hbar
  imod (close x (κ (sA c)) (sA c)) $$ [HsA] with HsA
  · isplitr; · iapply (inv_sA x); iexact HR
    iexact HsA
  imod (close x (κ (rA c)) (rA c)) $$ [HrA] with HrA
  · isplitr; · iapply (inv_rA x); iexact HR
    iexact HrA
  imod (close x (κ (sB c)) (sB c)) $$ [HsB] with HsB
  · isplitr; · iapply (inv_sB x); iexact HR
    iexact HsB
  imod (close x (κ (rB c)) (rB c)) $$ [HrB] with HrB
  · isplitr; · iapply (inv_rB x); iexact HR
    iexact HrB
  imodintro
  iapply Hk
  unfold bodyPost
  isplitl [Hbar HsA HrA HsB HrB]
  · isplitl [Hbar]; · iexact Hbar
    isplitl [HsA]; · iexact HsA
    isplitl [HrA]; · iexact HrA
    isplitl [HsB]; · iexact HsB
    iexact HrB
  isplitl [Hx]; · iexact Hx
  isplitl [Ho]; · iexact Ho
  isplitl [Hl]; · iexists (land x c); iexact Hl
  isplitl [Hg]; · iexists (gath x); iexact Hg
  iexists _; iexact HO

end Cert.KernelIdeal.Own
-- ==== Proof.KernelIdeal.Region.lean ====
/-
  The kernel function as the program's one region: what goes in from the launch, its semaphores opened on entry, the body's run, and what
  comes out.
-/
module

public import proofs.«01_k».proof.Proof.KernelIdeal.Talk
public import proofs.«01_k».proof.Proof.Gen.KernelIdeal.Regions
public import proofs.«01_k».proof.Proof.Gen.KernelIdeal.Points
public import Idealize.ShloMosaic.Lib.Pipeline.RegionTalk
public import Idealize.ShloMosaic.Lib.Pipeline.ValueKit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

/-! ## What the launch keeps for the region, and the opening of the region's semaphores -/

section Ghost

variable (x : Dev nD → Arr F)

/-- The kernel's four scoped semaphores. -/
abbrev osem : Fin 4 → SemLoc sig := fun | 0 => .dma dSA | 1 => .dma dRA | 2 => .dma dSB | 3 => .dma dRB

theorem own4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem ownSems_eq (c : Dev nD) : (Pipeline.ownSems0 osem c : sProp 𝕄)
    = iprop(semVal (sA c) 0 ∗ semVal (rA c) 0 ∗ semVal (sB c) 0 ∗ semVal (rB c) 0) :=
  own4 fun k : Fin 4 => semVal ((c : Thread nD τ), osem k) 0

/-- The rights to open the four cells of device `c`'s scoped semaphores. -/
def rights (c : Dev nD) : sProp 𝕄 :=
  iprop(openTok ER (sA c) ∗ openTok ER (rA c) ∗ openTok ER (sB c) ∗ openTok ER (rB c))

/-- What of the launch waits for device `c`'s kernel: its place at the barrier, the rights to open, what it pays with, and what it waits with. -/
def dealt (c : Dev nD) : sProp 𝕄 :=
  iprop(atPos ER (bar c) 0 ∅ 0 ∗ rights c ∗ tokens c
    ∗ cred (tallyAt (bar c) () 31) ∗ cred (tallyAt (rA c) () (31 * N)) ∗ cred (tallyAt (rB c) () (31 * N)))

def Tk (c : Dev nD) : sProp 𝕄 := iprop(∃ κ, records x κ ∗ dealt c)
def Xk (c : Dev nD) : sProp 𝕄 := iprop(∃ κ, known x κ c ∗ ready c)
def Yk (c : Dev nD) : sProp 𝕄 := semVal (bar c) 0

/-- On entry the region's four counters, at zero, open their cells. -/
theorem hopen (c : Dev nD) : iprop(Tk x c ∗ Pipeline.ownSems0 osem c ∗ levAts L lv) ⊢ (|={Set.univ}=> Xk x c : sProp 𝕄) := by
  rw [ownSems_eq]
  unfold Tk Xk dealt rights known ready
  iintro ⟨⟨%κ, #HR, Hbar, ⟨HsA, HrA, HsB, HrB⟩, Ht, Hc1, Hc2, Hc3⟩, ⟨HvsA, HvrA, HvsB, HvrB⟩, #Hlev⟩
  imod (Rounds.cell_open ER (Rd x) (g := sA c) (Set.mem_univ (κ (sA c)))) $$ [HsA HvsA] with ⟨HatsA, #HosA⟩
  · isplitr; · iapply (inv_sA x c); iexact HR
    isplitl [HsA] <;> iassumption
  imod (Rounds.cell_open ER (Rd x) (g := rA c) (Set.mem_univ (κ (rA c)))) $$ [HrA HvrA] with ⟨HatrA, #HorA⟩
  · isplitr; · iapply (inv_rA x c); iexact HR
    isplitl [HrA] <;> iassumption
  imod (Rounds.cell_open ER (Rd x) (g := sB c) (Set.mem_univ (κ (sB c)))) $$ [HsB HvsB] with ⟨HatsB, #HosB⟩
  · isplitr; · iapply (inv_sB x c); iexact HR
    isplitl [HsB] <;> iassumption
  imod (Rounds.cell_open ER (Rd x) (g := rB c) (Set.mem_univ (κ (rB c)))) $$ [HrB HvrB] with ⟨HatrB, #HorB⟩
  · isplitr; · iapply (inv_rB x c); iexact HR
    isplitl [HrB] <;> iassumption
  imodintro
  iexists κ
  isplitr
  · isplitr; · iexact HR
    isplitr; · iexact HosA
    isplitr; · iexact HorA
    isplitr; · iexact HosB
    isplitr; · iexact HorB
    iexact Hlev
  isplitl [Hbar]; · iexact Hbar
  isplitl [HatsA]; · iexact HatsA
  isplitl [HatrA]; · iexact HatrA
  isplitl [HatsB]; · iexact HatsB
  isplitl [HatrB]; · iexact HatrB
  isplitl [Ht]; · iexact Ht
  isplitl [Hc1]; · iexact Hc1
  isplitl [Hc2] <;> iassumption

end Ghost

/-! ## The region's data -/

section Data

variable (V : Dev nD → Valuation τ sig (Elt F))

/-- Device `c`'s partial array, among the contents that the region is entered with. -/
abbrev mine (c : Dev nD) : Arr F := V c main_v23

/-- The scratch arrays, at whatever they hold. -/
def scratch (c : Dev nD) : sProp 𝕄 :=
  iprop((∃ f : Buf (Elt F) ((c : Thread nD τ).loc cc0_scratch0), (c : Thread nD τ).loc cc0_scratch0 ↦{fullShare} f)
    ∗ (∃ f : Buf (Elt F) ((c : Thread nD τ).loc cc0_scratch1), (c : Thread nD τ).loc cc0_scratch1 ↦{fullShare} f))

def entryInv (c : Dev nD) : sProp 𝕄 := iprop(Xk (mine V) c ∗ scratch c ∗ ∃ r, prngReg c r)
def exitInv (c : Dev nD) : sProp 𝕄 := iprop(Yk c ∗ Pipeline.ownSems0 osem c ∗ scratch c ∗ ∃ r, prngReg c r)

/-- The one point of the region: the input array fetched, the result written, everything owed paid. -/
def dat (c : Dev nD) : Dat τ (Elt F) Unit ℕ UU ℕ cfg0 c where
  A w := V c (Proc.devRef .tc (Pipeline.arrRef spec0 w))
  after w _ := match w with
    | ⟨0, _⟩ => mine V c
    | ⟨1, _⟩ => out (mine V)
  Φ t := if t.val = 0 then entryInv V c else exitInv c
  q _ := fullShare
  owed t := if t.val = 0 then O₀ c else 0

abbrev pdats : (p : Fin 1) → (c : Dev nD) → Dat τ (Elt F) Unit ℕ UU ℕ (cfgs p) c
  | 0 => dat V

/-- What the region leaves: the result in the output array, all else as it was. -/
abbrev Vout (c : Dev nD) : Valuation τ sig (Elt F) := Function.update (V c) main_v24 (out (mine V) : S1024x512.Idx → Elt F .f32)

theorem Vout_result (c : Dev nD) : Vout V c main_v24 = (out (mine V) : S1024x512.Idx → Elt F .f32) :=
  Function.update_self (f := V c) _ _

theorem fetched_in (c : Dev nD) (d : (cfg0.win 0).block.Idx → Elt F (cfg0.win 0).elt) : (dat V c).before 0 t0_0 d = mine V c := by
  unfold Dat.before; rw [if_pos (by decide)]
  show ((cfg0.win 0).blk t0_0).view.read (Elt F) (mine V c) = mine V c
  funext j
  show mine V c (((cfg0.win 0).rect t0_0).emb j) = mine V c j
  congr 1; funext a; apply Fin.ext
  rw [Pipeline.Window.rect_emb_val_of_index_zero _ _ _ (by revert a; decide)]

/-- A whole buffer as a block of its own. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ ((c : Thread nD τ).loc b ↦{fullShare} f)) := by
  unfold owns; simp only [Memref.view_whole, View.read_whole, View.set_whole]

theorem inv_first (c : Dev nD) : (dat V c).Φ t0_0.castSucc = entryInv V c := by
  show (if (t0_0.castSucc : Fin (cfg0.N + 1)).val = 0 then entryInv V c else exitInv c) = _; exact if_pos rfl
theorem inv_last (c : Dev nD) : (dat V c).Φ t0_0.succ = exitInv c := by
  show (if (t0_0.succ : Fin (cfg0.N + 1)).val = 0 then entryInv V c else exitInv c) = _; exact if_neg (by decide)
theorem owed_first (c : Dev nD) : (dat V c).owed t0_0.castSucc = O₀ c := by
  show (if (t0_0.castSucc : Fin (cfg0.N + 1)).val = 0 then O₀ c else 0) = _; exact if_pos rfl
theorem owed_last (c : Dev nD) : (dat V c).owed t0_0.succ = 0 := by
  show (if (t0_0.succ : Fin (cfg0.N + 1)).val = 0 then O₀ c else 0) = _; exact if_neg (by decide)

/-- The body's run at the region's one point. -/
theorem body_obligation (c : Dev nD) : BodyObligation (dat V c) (defs₀ (F := F)) 𝒱₀ () Set.univ := fun t => by
  obtain rfl := fin_N0 t
  rw [bigSep_W0, bigSep_W0]
  simp only [owns_buf]
  rw [inv_first, inv_last]
  unfold Dat.owesAt Pipeline.owesWithin
  rw [owed_first, owed_last]
  unfold entryInv exitInv Xk scratch
  iintro ⟨⟨⟨%κ, Hk, Hr⟩, ⟨Hl, Hg⟩, Hp⟩, ⟨%W, -, HO⟩, ⟨%d0, %f0, %hf0, H0⟩, ⟨%d1, %f1, %hf1, H1⟩⟩
  rw [fetched_in] at hf0
  subst hf0
  iapply (bodyRun (mine V) κ c W _)
  isplitl [Hk]; · iexact Hk
  isplitl [Hr]; · iexact Hr
  isplitl [H0 H1 Hl Hg]
  · unfold arrays
    isplitl [H0]; · iexact H0
    isplitl [H1]; · iexists f1; iexact H1
    isplitl [Hl]; · iexact Hl
    iexact Hg
  isplitl [HO]; · iexact HO
  unfold bodyPost
  iintro ⟨⟨Hb, HsA, HrA, HsB, HrB⟩, H0, H1, Hl, Hg, ⟨%W', HO⟩⟩
  isplitr [HO H0 H1]
  · isplitl [Hb]; · unfold Yk; iexact Hb
    isplitl [HsA HrA HsB HrB]
    · rw [ownSems_eq]
      isplitl [HsA]; · iexact HsA
      isplitl [HrA]; · iexact HrA
      isplitl [HsB] <;> iassumption
    isplitl [Hl Hg]
    · isplitl [Hl] <;> iassumption
    iexact Hp
  isplitl [HO]
  · iexists W'; isplitr; · ipureintro; exact fun _ _ => Or.inl trivial
    iexact HO
  isplitl [H0]
  · iexists _; isplitr; swap; (· iexact H0); ipureintro; rfl
  iexists _; isplitr; swap; (· iexact H1); ipureintro; rfl

/-! ## The region's record -/

theorem O₀_above {c : Dev nD} {g : GSem nD τ sig} {u : Unit} (h : 0 < O₀ c g u) : g.1.2 = .tc ∧ 0 < lv g () := by
  unfold O₀ at h
  rw [Pi.add_apply, Finsupp.add_apply, Pi.add_apply, Finsupp.add_apply] at h
  rcases Nat.add_pos_iff_pos_or_pos.mp h with h | h
  · rcases Nat.add_pos_iff_pos_or_pos.mp h with h | h
    · obtain ⟨j, rfl⟩ := owed_sum h; exact ⟨rfl, by rw [lv_rB]; decide⟩
    · obtain ⟨j, rfl⟩ := owed_sum h; exact ⟨rfl, by rw [lv_rA]; decide⟩
  · obtain ⟨j, rfl⟩ := owed_sum h; exact ⟨rfl, by rw [lv_bar]; decide⟩

/-- Everything owed in the region lies above the waits of its own transfers. -/
theorem cut : Pipeline.LevelCutOwed (pcfgs (F := F)) adm (pdats V) () L lv 0 (fun _ => 0) where
  hι c w s := by rw [L_tc]; exact Finset.mem_singleton_self _
  hιb c w s := by
    revert s w
    exact (by decide : ∀ (w : Fin 2) (s : Fin ((cfg0.win w).nbuf)), lv (((0 : Dev nD) : Thread nD τ), .dma ((cfg0.win w).sem s)) () ≤ 0)
  hD c t g i h := by
    have e : (pdats V 0 c).owed t = if t.val = 0 then O₀ c else 0 := rfl
    rw [e] at h
    split at h
    · exact ⟨by unfold L; rw [if_pos (O₀_above h).1]; exact Finset.mem_singleton_self _, (O₀_above h).2⟩
    · exact absurd h (Nat.lt_irrefl 0)

/-- The buffers that stay outside the region. -/
abbrev aside : Finset (DevRef τ sig) := Pipeline.ucRefs τ sig \ Pipeline.arrRefs (τ := τ) (pcfgs (F := F) 0).spec

theorem arrs_mem (w : Fin 2) : (Proc.devRef .tc (Pipeline.arrRef spec0 w) : DevRef τ sig) ∈ Pipeline.arrRefs (τ := τ) (pcfgs (F := F) 0).spec := by
  unfold Pipeline.arrRefs; exact Finset.mem_map_of_mem _ (Finset.mem_image_of_mem _ (Finset.mem_univ w))

theorem held_none (c : Dev nD) (W : Valuation τ sig (Elt F)) : (StableHlo.held (c.tc : Thread nD τ) ∅ W : sProp 𝕄) = BI.emp := by
  unfold StableHlo.held; exact BI.bigSep_empty

theorem hin (c : Dev nD) : iprop(Pipeline.scopedRest (Pipeline.pin (pcfgs (F := F)) adm 0).spec c ∗ (∃ r, prngReg c r)
      ∗ StableHlo.held (c.tc : Thread nD τ) ∅ (V c) ∗ Xk (mine V) c)
    ⊢ (pdats V 0 c).Φ 0 := by
  rw [show (pdats V 0 c).Φ 0 = entryInv V c from inv_first V c, held_none]
  refine (sep_mono_left (Entails.of_eq (scopedRest0_eq c))).trans ?_
  unfold entryInv scratch
  iintro ⟨Hs, Hp, -, Hx⟩
  isplitl [Hx]; · iexact Hx
  isplitl [Hs] <;> iassumption

theorem hout (c : Dev nD) : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (Vout V c) ∗ Pipeline.ownSems0 osem c ∗ Yk c) := by
  rw [show (pdats V 0 c).Φ (Fin.last _) = exitInv c from inv_last V c, held_none]
  refine .trans ?_ (sep_mono_left (Entails.of_eq (scopedRest0_eq c).symm))
  unfold exitInv scratch
  iintro ⟨Hy, Ho, Hs, Hp⟩
  isplitl [Hs]; · iexact Hs
  isplitl [Hp]; · iexact Hp
  isplitr; · iempintro
  isplitl [Ho] <;> iassumption

/-- The two arrays of the region before it and after it. -/
theorem at_entry (c : Dev nD) (w : Fin 2) : (pdats V 0 c).arrAt w 0 = V c (Proc.devRef .tc (Pipeline.arrRef spec0 w)) := rfl
theorem at_exit (c : Dev nD) (w : Fin 2) : (pdats V 0 c).arrAt w cfg0.N = Vout V c (Proc.devRef .tc (Pipeline.arrRef spec0 w)) := by
  match w with
  | ⟨0, _⟩ =>
    refine ((dat V c).arrAt_in 0 rfl _).trans ?_
    exact (Function.update_of_ne (by decide : (Proc.devRef .tc main_v23 : DevRef τ sig) ≠ Proc.devRef .tc main_v24) _ _).symm
  | ⟨1, _⟩ =>
    refine ((dat V c).arrAt_eq_of_after_last 1 t0_0 (by decide +kernel) (out (mine V)) (fun j => rfl)).trans ?_
    exact (Vout_result V c).symm

set_option backward.isDefEq.respectTransparency.types false in
/-- The region, entered with what the launch keeps for it and left with every counter at zero. -/
def region : Pipeline.RegionSeg (pcfgs (F := F)) adm (pdats V) () defs₀ 𝒱₀ L lv 0 :=
  Pipeline.RegionSeg.ofTalk (pcfgs (F := F)) adm (pdats V) () defs₀ 𝒱₀ L lv 0 osem (by decide : Pipeline.OwnSemFacts spec0 osem)
    ∅ (aside (F := F)) (Finset.empty_subset _) launch0.toP rfl (fun c => (body_obligation V c).loose)
    (fun _ => 0) O₀ (fun c => (owed_first V c).trans (zero_add _).symm) (fun c => owed_last V c) (fun _ => rfl)
    (fun c w => by unfold Dat.share; split <;> rfl)
    V (Vout V) (fun c b hb => Function.update_of_ne (fun e => by
      rw [e] at hb
      exact (Finset.mem_sdiff.mp (Finset.mem_sdiff.mp hb).1).2 (arrs_mem (F := F) 1)) _ _)
    (Tk (mine V)) Yk (Xk (mine V)) Yk (hopen (mine V)) (hin V) (hout V)
    (fun c => by iintro H; imodintro; iexact H)
    (fun _ => 0) (cut V) (fun _ => iprop(emp)) (at_entry V) (at_exit V)

/-- What a device carries into the region beside its buffers, and what it carries out. -/
def before (c : Dev nD) : sProp 𝕄 := iprop(Tk (mine V) c ∗ (∃ r, prngReg c r) ∗ ∃ W, owes (c : Thread nD τ) (O₀ c) W)
def after (c : Dev nD) : sProp 𝕄 := iprop(semVal (bar c) 0 ∗ ∃ W, owes (c : Thread nD τ) (0 : CellTallies nD τ sig Unit) W)

theorem arrs_sub : Pipeline.arrRefs (τ := τ) (pcfgs (F := F) 0).spec ⊆ Pipeline.ucRefs τ sig := by
  show Pipeline.arrRefs (τ := τ) spec0 ⊆ Pipeline.ucRefs τ sig
  decide

theorem region_pre (c : Dev nD) : iprop(StableHlo.held (c : Thread nD τ) (Pipeline.ucRefs τ sig) (V c) ∗ before V c) ⊢ (region V).pre c := by
  show _ ⊢ iprop(StableHlo.held (c.tc : Thread nD τ) (Pipeline.arrRefs (τ := τ) (pcfgs (F := F) 0).spec) (V c) ∗ (∃ r, prngReg c r)
    ∗ (StableHlo.held (c.tc : Thread nD τ) (aside (F := F)) (V c) ∗ emp) ∗ Tk (mine V) c ∗ ∃ Wd, owes (c : Thread nD τ) (0 + O₀ c) Wd)
  rw [zero_add, StableHlo.held_sub_split (c.tc : Thread nD τ) (arrs_sub (F := F)) (V c)]
  unfold before
  iintro ⟨⟨Ha, Hr⟩, HT, Hp, HO⟩
  isplitl [Ha]; · iexact Ha
  isplitl [Hp]; · iexact Hp
  isplitl [Hr]
  · isplitl [Hr]; · iexact Hr
    iempintro
  isplitl [HT] <;> iassumption

theorem region_post (c : Dev nD) : (region V).post c ⊢ iprop(StableHlo.held (c : Thread nD τ) (Pipeline.ucRefs τ sig) (Vout V c) ∗ after c) := by
  show iprop(StableHlo.held (c.tc : Thread nD τ) (Pipeline.arrRefs (τ := τ) (pcfgs (F := F) 0).spec) (Vout V c) ∗ (∃ r, prngReg c r)
    ∗ (StableHlo.held (c.tc : Thread nD τ) (aside (F := F)) (Vout V c) ∗ emp) ∗ Yk c ∗ ∃ Wd, owes (c : Thread nD τ) (0 : CellTallies nD τ sig Unit) Wd) ⊢ _
  rw [StableHlo.held_sub_split (c.tc : Thread nD τ) (arrs_sub (F := F)) (Vout V c)]
  unfold after Yk
  iintro ⟨Ha, -, ⟨Hr, -⟩, Hb, HO⟩
  isplitl [Ha Hr]
  · isplitl [Ha] <;> iassumption
  isplitl [Hb] <;> iassumption

end Data

end Cert.KernelIdeal.Own
-- ==== Proof.KernelIdeal.Run.lean ====
/-
  The launch and the run: every cell of the protocol funded at launch, the scoped ones to be opened by the region, every duty's token dealt
  to the device that pays it, the launch credit to the device that waits with it; and the whole program's run from any memory.
-/
module

public import proofs.«01_k».proof.Proof.KernelIdeal.Region
public import Idealize.ShloMosaic.Harness.Basic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ UU ℕ

/-! ## The cells and the tokens -/

/-- The five semaphores of the protocol, the barrier first. -/
abbrev five : Fin 5 → SemLoc sig := fun | 0 => .reg barSem | 1 => .dma dSA | 2 => .dma dRA | 3 => .dma dSB | 4 => .dma dRB

theorem osem_inj : Function.Injective osem := by decide
theorem osem_ne_bar : ∀ k : Fin 4, osem k ≠ .reg barSem := by decide
theorem five_inj : Function.Injective five := by decide

/-- A device is told by any of its cells. -/
theorem dev_of_cell {c d : Dev nD} {s t : SemLoc sig} (h : (((c : Thread nD τ), s) : GSem nD τ sig) = ((d : Thread nD τ), t)) : c = d :=
  congrArg (fun g : GSem nD τ sig => g.1.1) h

def barAt : Dev nD ↪ GSem nD τ sig := ⟨fun c => bar c, fun _ _ h => dev_of_cell h⟩
def ownAt : Dev nD × Fin 4 ↪ GSem nD τ sig :=
  ⟨fun p => ((p.1 : Thread nD τ), osem p.2), fun _ _ h => Prod.ext (dev_of_cell h) (osem_inj (congrArg Prod.snd h))⟩
def tokAt : Dev nD × (Fin 5 × Fin 31) ↪ GSem nD τ sig × ℕ × Fin 31 :=
  ⟨fun p => (((p.1 : Thread nD τ), five p.2.1), 0, p.2.2), fun _ _ h =>
    Prod.ext (dev_of_cell (congrArg Prod.fst h))
      (Prod.ext (five_inj (congrArg (fun t : GSem nD τ sig × ℕ × Fin 31 => t.1.2) h)) (congrArg (fun t : GSem nD τ sig × ℕ × Fin 31 => t.2.2) h))⟩

/-- The barrier cells, funded open; the cells of the scoped semaphores, funded to be opened later; a token for every duty. -/
abbrev bars : Finset (GSem nD τ sig) := Finset.univ.map barAt
abbrev owns4 : Finset (GSem nD τ sig) := Finset.univ.map ownAt
abbrev allToks : Finset (GSem nD τ sig × ℕ × Fin 31) := Finset.univ.map tokAt

theorem bars_apart : Disjoint bars owns4 :=
  Finset.disjoint_left.mpr fun g h₁ h₂ => by
    obtain ⟨c, -, rfl⟩ := Finset.mem_map.mp h₁
    obtain ⟨p, -, h⟩ := Finset.mem_map.mp h₂
    exact osem_ne_bar p.2 (congrArg Prod.snd h)

theorem over_bars (Φ : GSem nD τ sig → sProp 𝕄) : bigSep bars Φ = bigSep Finset.univ fun c : Dev nD => Φ (bar c) := bigSep_map _
theorem over_own (Φ : GSem nD τ sig → sProp 𝕄) :
    bigSep owns4 Φ = bigSep Finset.univ fun c : Dev nD => iprop(Φ (sA c) ∗ Φ (rA c) ∗ Φ (sB c) ∗ Φ (rB c)) := by
  rw [bigSep_map, bigSep_univ_prod]
  exact bigSep_congr fun c _ => own4 fun k : Fin 4 => Φ ((c : Thread nD τ), osem k)
theorem over_all (Φ : GSem nD τ sig → sProp 𝕄) :
    bigSep (bars ∪ owns4) Φ = bigSep Finset.univ fun c : Dev nD => iprop(Φ (bar c) ∗ Φ (sA c) ∗ Φ (rA c) ∗ Φ (sB c) ∗ Φ (rB c)) := by
  rw [bigSep_union bars_apart, over_bars, over_own]
  exact (bigSep_sep' _ _ _).symm

theorem all5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-- What each device is told at each offset is what each device tells at each offset. -/
theorem around (Φ : Dev nD → Fin 31 → sProp 𝕄) :
    (bigSep Finset.univ fun c : Dev nD => bigSep Finset.univ fun j : Fin 31 => Φ c j)
      = bigSep Finset.univ fun c : Dev nD => bigSep Finset.univ fun j : Fin 31 => Φ (peer c j) j := by
  rw [bigSep_univ_comm, bigSep_univ_comm (Φ := fun (c : Dev nD) (j : Fin 31) => Φ (peer c j) j)]
  exact bigSep_congr fun j _ => bigSep_univ_equiv (turn j) fun c => Φ c j

/-- All the tokens, each with the device that pays the duty. -/
theorem deal_tokens : bigSep allToks (fun t => (dutyTok ER t.1 t.2.1 t.2.2 : sProp 𝕄)) = bigSep Finset.univ fun c : Dev nD => tokens c := by
  rw [bigSep_map, bigSep_univ_prod]
  unfold tokens
  rw [bigSep_congr (Ψ := fun c : Dev nD => iprop(
    (bigSep Finset.univ fun j : Fin 31 => (dutyTok ER (bar c) 0 j.rev : sProp 𝕄)) ∗ (bigSep Finset.univ fun j : Fin 31 => dutyTok ER (sA c) 0 j)
      ∗ (bigSep Finset.univ fun j : Fin 31 => dutyTok ER (rA c) 0 j) ∗ (bigSep Finset.univ fun j : Fin 31 => dutyTok ER (sB c) 0 j)
      ∗ (bigSep Finset.univ fun j : Fin 31 => dutyTok ER (rB c) 0 j))) fun c _ => by
        rw [bigSep_univ_prod, all5, ← backwards fun j => dutyTok ER (bar c) 0 j]; rfl]
  simp only [bigSep_sep']
  rw [around fun c j => dutyTok ER (bar c) 0 j.rev, around fun c j => dutyTok ER (rA c) 0 j, around fun c j => dutyTok ER (rB c) 0 j]

/-! ## The launch credit -/

/-- Each of the thirty-one offsets leads from exactly one device to `c`: what all owe to `c`'s cell. -/
theorem owed_to (s t : SemLoc sig) (k : ℕ) (c : Dev nD) :
    (∑ d : Dev nD, (∑ j : Fin 31, (tallyAt ((peer d j : Thread nD τ), s) () k : CellTallies nD τ sig Unit)) ((c : Thread nD τ), t) ())
      = if t = s then 31 * k else 0 := by
  simp only [Finset.sum_apply, Finsupp.finsetSum_apply]
  rw [Finset.sum_comm]
  have h (j : Fin 31) : (∑ d : Dev nD, (tallyAt ((peer d j : Thread nD τ), s) () k : CellTallies nD τ sig Unit) ((c : Thread nD τ), t) ())
      = if t = s then k else 0 := by
    refine (Equiv.sum_comp (turn j) fun d : Dev nD => (tallyAt ((d : Thread nD τ), s) () k : CellTallies nD τ sig Unit) ((c : Thread nD τ), t) ()).trans ?_
    rw [Finset.sum_congr rfl fun d _ => (tallyAt_apply _ _ _ _ _), Finset.sum_eq_single c]
    · by_cases h : t = s
      · rw [if_pos h, if_pos ⟨by rw [h], rfl⟩]
      · rw [if_neg h, if_neg fun e => h (congrArg Prod.snd e.1)]
    · exact fun d _ hd => if_neg fun e => hd (dev_of_cell e.1).symm
    · exact fun hc => absurd (Finset.mem_univ c) hc
  rw [Finset.sum_congr rfl fun j _ => h j, Finset.sum_const, Finset.card_univ, Fintype.card_fin]
  split <;> simp

theorem owed_all (t : SemLoc sig) (c : Dev nD) : (∑ d : Dev nD, O₀ d ((c : Thread nD τ), t) ())
    = (if t = .dma dRB then 31 * N else 0) + (if t = .dma dRA then 31 * N else 0) + (if t = .reg barSem then 31 * 1 else 0) := by
  rw [← owed_to (.dma dRB) t N c, ← owed_to (.dma dRA) t N c, ← owed_to (.reg barSem) t 1 c, ← Finset.sum_add_distrib, ← Finset.sum_add_distrib]
  rfl

theorem credit_of (t : SemLoc sig) (c : Dev nD) (k : ℕ) (h : (∑ d : Dev nD, O₀ d ((c : Thread nD τ), t) ()) = k) :
    tallyOn ((c : Thread nD τ), t) (launchCredit (Pipeline.owing O₀) 0 ((c : Thread nD τ), t))
      = (tallyAt ((c : Thread nD τ), t) () k : CellTallies nD τ sig Unit) := by
  unfold tallyAt; refine congrArg _ (Finsupp.ext fun u => ?_); cases u
  rw [Pipeline.launchCredit_owing, Finsupp.single_eq_same, h]

/-- What a device waits with, from its launch credit. -/
theorem creds (c : Dev nD) : (Pipeline.launchCred O₀ c : sProp 𝕄)
    ⊢ iprop(cred (tallyAt (bar c) () 31) ∗ cred (tallyAt (rA c) () (31 * N)) ∗ cred (tallyAt (rB c) () (31 * N))) := by
  unfold Pipeline.launchCred
  rw [bigSep_univ_at _ (SemLoc.reg barSem),
    BI.bigSep_erase (Finset.mem_erase.mpr ⟨dma_ne_bar dRA, Finset.mem_univ _⟩ : SemLoc.dma dRA ∈ Finset.univ.erase (SemLoc.reg barSem)),
    credit_of (.reg barSem) c 31 (by rw [owed_all, if_neg (by decide), if_neg (by decide), if_pos rfl]),
    credit_of (.dma dRA) c (31 * N) (by rw [owed_all, if_neg (by decide), if_pos rfl, if_neg (by decide), Nat.zero_add, Nat.add_zero]),
    ← credit_of (.dma dRB) c (31 * N) (by rw [owed_all, if_pos rfl, if_neg (by decide), if_neg (by decide), Nat.add_zero])]
  exact sep_mono_right (sep_mono_right (bigSep_elim (Finset.mem_erase.mpr ⟨by decide, Finset.mem_erase.mpr ⟨dma_ne_bar dRB, Finset.mem_univ _⟩⟩)))

/-! ## The launch -/

section Launch

variable (m : (ℓ : Loc nD τ sig) → Buf (Elt F) ℓ) (ρ : Dev nD → PrngReg)

/-- The ghost state at launch: the pipeline's, and the protocol's. -/
def u₀ : UU :=
  (initOf (Pipeline.cells cfgs cellOf_inj) (Pipeline.launchToks cfgs cellOf_inj), launchOf bars owns4 allToks)

/-- The protocol's ghost state, left with device 0 until the launch deals it. -/
def parked (c : Dev nD) : sProp 𝕄 := if c = 0 then BI.own (ER (launchOf bars owns4 allToks)) else iprop(emp)

theorem parked_eq : bigSep Finset.univ (parked (F := F)) = BI.own (ER (launchOf bars owns4 allToks)) := by
  rw [bigSep_univ_at _ (0 : Dev nD), bigSep_congr (s := Finset.univ.erase (0 : Dev nD)) (Ψ := fun _ => (BI.emp : sProp 𝕄))
    fun c hc => by unfold parked; rw [if_neg (Finset.ne_of_mem_erase hc)]; rfl, BI.bigSep_emp_const]
  unfold parked; rw [if_pos rfl]
  exact BI.equiv_iff.mp sep_emp

theorem unscoped_sems (c : Dev nD) : (unscopedSems0 c : sProp 𝕄) = semVal (bar c) 0 := by
  unfold unscopedSems0
  rw [show (Finset.univ.filter fun sm : SemLoc sig => ¬ sm.isScoped .tc) = {SemLoc.reg barSem} from by decide, BI.bigSep_singleton]

/-- What the program is entered with: every buffer at its launch contents, and what the region is entered with. -/
abbrev Vin (c : Dev nD) : Valuation τ sig (Elt F) := V5 m c
abbrev T₀ (c : Dev nD) : sProp 𝕄 := iprop(StableHlo.held (c : Thread nD τ) (Pipeline.ucRefs τ sig) (V0 m c) ∗ before (Vin m) c)

/-- A device's own share of the launch, the protocol's ghost state apart. -/
def share (c : Dev nD) : sProp 𝕄 :=
  iprop(StableHlo.held (c : Thread nD τ) (Pipeline.ucRefs τ sig) (V0 m c)
    ∗ (cred (tallyAt (bar c) () 31) ∗ cred (tallyAt (rA c) () (31 * N)) ∗ cred (tallyAt (rB c) () (31 * N)))
    ∗ owes (c : Thread nD τ) (O₀ c) ∅ ∗ ∃ r, prngReg c r)

def portion (c : Dev nD) : sProp 𝕄 := iprop(atPos ER (bar c) 0 ∅ 0 ∗ rights c ∗ tokens c)

theorem share_intro (c : Dev nD) :
    iprop(unscopedBufs c (fun b => m ((c.tc : Thread nD τ).loc b)) ∗ unscopedSems0 c
        ∗ owes (c.tc : Thread nD τ) (O₀ c) ∅ ∗ Pipeline.launchCred O₀ c ∗ prngReg c (ρ c) ∗ parked c)
      ⊢ (iprop(share m c ∗ (semVal (bar c) 0 ∗ parked c)) : sProp 𝕄) := by
  rw [show unscopedBufs c (fun b => m ((c.tc : Thread nD τ).loc b)) = StableHlo.held (c : Thread nD τ) (Pipeline.ucRefs τ sig) (V0 m c) from
    Pipeline.unscopedBufs_held (Ix := Unit) (Name := ℕ) (U := UU) (Lvl := ℕ) c (V0 m c), unscoped_sems]
  unfold share
  iintro ⟨Hh, Hv, HO, Hcr, Hp, HG⟩
  ihave Hc := (creds (F := F) c) $$ Hcr
  isplitl [Hh Hc HO Hp]
  · isplitl [Hh]; · iexact Hh
    isplitl [Hc]; · iexact Hc
    isplitl [HO]; · iexact HO
    iexists (ρ c); iexact Hp
  isplitl [Hv] <;> iassumption

theorem T₀_intro (κ : GSem nD τ sig → ℕ) (c : Dev nD) : iprop(records (mine (Vin m)) κ ∗ (portion c ∗ share m c)) ⊢ T₀ m c := by
  unfold portion share T₀ before Tk dealt
  iintro ⟨#HR, ⟨Hat, Hr, Ht⟩, Hh, ⟨H1, H2, H3⟩, HO, Hp⟩
  isplitl [Hh]; · iexact Hh
  isplitr [HO Hp]
  · iexists κ
    isplitr; · iexact HR
    isplitl [Hat]; · iexact Hat
    isplitl [Hr]; · iexact Hr
    isplitl [Ht]; · iexact Ht
    isplitl [H1]; · iexact H1
    isplitl [H2] <;> iassumption
  isplitl [Hp]; · iexact Hp
  iexists ∅; iexact HO

theorem launch :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c)) ∗ levAts L lv)
      ⊢ (|={Set.univ}=> bigSep Finset.univ (T₀ m) : sProp 𝕄) := by
  have hs : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ parked c))
      ⊢ (iprop((bigSep Finset.univ (share m)) ∗ bigSep bars (fun g => semVal g 0) ∗ BI.own (ER (launchOf bars owns4 allToks))) : sProp 𝕄) := by
    rw [over_bars, ← parked_eq, ← bigSep_sep', ← bigSep_sep']
    exact bigSep_mono fun c _ => share_intro m ρ c
  have hp : iprop(bigSep bars (fun g => atPos ER g 0 ∅ 0) ∗ bigSep owns4 (fun g => openTok ER g)
        ∗ bigSep allToks (fun t => dutyTok ER t.1 t.2.1 t.2.2))
      ⊢ (bigSep Finset.univ portion : sProp 𝕄) := by
    rw [over_bars, over_own, deal_tokens, ← bigSep_sep', ← bigSep_sep']
    exact Entails.of_eq (bigSep_congr fun c _ => by unfold portion rights; rfl)
  have hr (κ : GSem nD τ sig → ℕ) : iprop((bigSep (bars ∪ owns4) fun g => cellInv ER (Rd (mine (Vin m))) (κ g) g) ∗ bigSep bars fun g => reached ER g 0)
      ⊢ (records (mine (Vin m)) κ : sProp 𝕄) := by
    rw [over_all, over_bars]; unfold records; exact BI.Entails.refl _
  iintro ⟨H, -⟩
  ihave H' := hs $$ H
  icases H' with ⟨Hsh, Hv, Hu⟩
  imod (Rounds.fund_launch ER (Rd (mine (Vin m))) bars_apart (fun g _ h => h) allToks) $$ [Hv Hu] with ⟨%κ, -, #Hinv, #Hr, Hat, Hopen, Htok⟩
  · isplitl [Hv] <;> iassumption
  imodintro
  iapply (bigSep_with_persistent (R := records (mine (Vin m)) κ) (Φ := fun c => iprop(portion c ∗ share m c)) fun c _ => T₀_intro m κ c)
  isplitr
  · iapply (hr κ)
    isplitr; · iexact Hinv
    iexact Hr
  rw [bigSep_sep']
  isplitr [Hsh]
  · iapply hp
    isplitl [Hat]; · iexact Hat
    isplitl [Hopen] <;> iassumption
  · iexact Hsh

/-! ## The run -/

theorem only_bar : ∀ sm : SemLoc sig, sm.isScoped .tc = false → sm = .reg barSem := by decide

theorem Vin_arg0 (c : Dev nD) : Vin m c main_arg0 = m ((c : Thread nD τ).loc main_arg0) :=
  (V5_of m c main_arg0 (by decide)).trans <| (V4_of m c main_arg0 (by decide)).trans <| (V3_of m c main_arg0 (by decide)).trans <|
    (V2_of m c main_arg0 (by decide)).trans (V1_of m c main_arg0 (by decide))
theorem Vin_arg1 (c : Dev nD) : Vin m c main_arg1 = m ((c : Thread nD τ).loc main_arg1) :=
  (V5_of m c main_arg1 (by decide)).trans <| (V4_of m c main_arg1 (by decide)).trans <| (V3_of m c main_arg1 (by decide)).trans <|
    (V2_of m c main_arg1 (by decide)).trans (V1_of m c main_arg1 (by decide))

/-- A buffer that the region does not write leaves it as it was. -/
theorem Vout_of (V : Dev nD → Valuation τ sig (Elt F)) (c : Dev nD) (r : Ref sig .tc) (h : (Proc.devRef .tc r : DevRef τ sig) ≠ Proc.devRef .tc main_v24) :
    Vout V c r = V c r := Function.update_of_ne h _ _

/-- The final state of the program: the arguments as launched, the result on every device, every counter at zero. -/
def Final (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_v24) = (out (mine (Vin m)) : S1024x512.Idx → Elt F .f32)) ∧ s.sem = fun _ => 0

set_option backward.isDefEq.respectTransparency.types false in
/-- From any memory, with every counter at zero: every fair execution of the program ends, and ends as `Final` says. -/
theorem run : θ_run defs (onTc (τ := τ) (main (F := F))) ⟨m, fun _ => 0, ρ⟩ (fun r => Final m r.2) := by
  refine Pipeline.θ_run_regions_kit_dev_sems (pcfgs (F := F)) adm (pdats (Vin m)) () cellOf_inj EP defs₀ 𝒱₀ L lv m ρ main
    (segs m 𝒱₀ L lv (fun _ => before (Vin m)) () (pdats (Vin m)) (region (Vin m)))
    (fun c Q => by
      rewrite [main_chain c, Pipeline.Seg.run_eq_chain,
        show (segs m 𝒱₀ L lv (fun _ => before (Vin m)) () (pdats (Vin m)) (region (Vin m)) c).map Pipeline.Seg.prog = [
          StableHlo.seq (hostOps0 c),
          StableHlo.seq hostOps0_1,
          StableHlo.seq hostOps0_2,
          StableHlo.seq hostOps0_3,
          StableHlo.seq hostOps0_4,
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    O₀ L_of_ne parked u₀
    (by
      unfold u₀
      iintro Hu
      ihave H := (ownU_pair _ _) $$ Hu
      icases H with ⟨HP, HX⟩
      imodintro
      isplitl [HP]; · iexact HP
      rw [parked_eq]; iexact HX)
    (T₀ := T₀ m)
    (Tₙ := fun c => iprop(StableHlo.held (c : Thread nD τ) (Pipeline.ucRefs τ sig) (Vout (Vin m) c) ∗ semVal (bar c) 0))
    (hch := fun c => ⟨.rfl, .rfl, .rfl, .rfl, .rfl, region_pre (Vin m) c, (region_post (Vin m) c).trans (by
      unfold after
      iintro ⟨Hh, Hb, HO⟩
      isplitr [HO]
      · isplitl [Hh] <;> iassumption
      iexact HO)⟩)
    (hinit := launch m ρ)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v24) = (out (mine (Vin m)) : S1024x512.Idx → Elt F .f32)) ∧ s.sem (bar c) = 0)
    (hfin := fun c s' => ?_)
    (hQ := fun s h hs => ⟨fun c => (h c).1, sem_eq_zero hs fun c sm hsm => by
      obtain rfl := only_bar sm hsm
      exact (h c).2⟩)
  unfold StableHlo.held
  iintro ⟨⟨Hh, Hb⟩, HSI⟩
  ihave Hr := (pointsTo_read_all (Pipeline.ucRefs τ sig) (fun b => ((c : Thread nD τ).1, b)) (Vout (Vin m) c) s') $$ [Hh HSI]
  · isplitl [Hh] <;> iassumption
  icases Hr with ⟨%h, HSI⟩
  icombine HSI Hb gives %hb
  imodintro
  isplitr
  · ipureintro
    have hr (r : Ref sig .tc) (hu : (Proc.devRef .tc r : DevRef τ sig) ∈ Pipeline.ucRefs τ sig) := h (Proc.devRef .tc r) hu
    exact ⟨⟨(hr main_arg0 (Finset.mem_filter.mpr ⟨StableHlo.devRef_mem_tcRefs main_arg0, by decide⟩)).trans
        ((Vout_of (Vin m) c main_arg0 (by decide)).trans (Vin_arg0 m c)),
      (hr main_arg1 (Finset.mem_filter.mpr ⟨StableHlo.devRef_mem_tcRefs main_arg1, by decide⟩)).trans
        ((Vout_of (Vin m) c main_arg1 (by decide)).trans (Vin_arg1 m c)),
      (hr main_v24 (Finset.mem_filter.mpr ⟨StableHlo.devRef_mem_tcRefs main_v24, by decide⟩)).trans (Vout_result (Vin m) c)⟩,
      by simpa using hb⟩
  iexact HSI

end Launch

end Cert.KernelIdeal.Own
-- ==== Proof.Reference.lean ====
/-
  The reference program's run on its one device: nine host operations that gather the rows of the table at the indices. Its result, its
  arguments and its counters at the end, from any memory; and its result read at an index whose row number is in range.
-/
module

public import proofs.«01_k».proof.Proof.Gen.ReferenceIdeal
public import Idealize.ShloMosaic.Lib.StableHlo.Run
public import Idealize.ShloMosaic.Lib.Quiescent
public import Idealize.ShloMosaic.Lib.Routing.Ops
public import Idealize.ShloMosaic.Lib.WordArith

@[expose] public section

noncomputable section

namespace Cert.ReferenceIdeal.Own

open Cert.ReferenceIdeal Cert.ReferenceIdeal.Gen
open Idealize.ShloMosaic Idealize.ShloMosaic.TcCoe Idealize.ShloMosaic.StableHlo Idealize.SL.Sem

variable {F : FTy → Type} [FloatOps F]

/-- The index array as the gather reads it: a negative index moved up by the number of rows, one index per row of the result. -/
def starts (idx : IVec S1024 32) : IVec S1024x1 32 :=
  broadcastInDim S1024x1 ![0] bcast_S1024_S1024x1_0
    (select (cmpi .slt idx (broadcastInDim S1024 ![] bcast_S_S1024 (constantI S_ 32 0#32)))
      (addi idx (broadcastInDim S1024 ![] bcast_S_S1024 (constantI S_ 32 131072#32))) idx)

/-- The reference's result from its arguments. -/
def refOut (table : FVec F S131072x512 .f32) (idx : IVec S1024 32) : FVec F S1024x512 .f32 :=
  Host.gather gather_S131072x512_S1024x1_S1024x512_1_0_n_n_0_1_1512 table (starts idx)

/-- The program's operations, in order. -/
abbrev ops : List (HloOp τ sig (Elt F)) :=
  [ nullary main_c (constantI S_ 32 0#32),
    unary main_c main_v0 (broadcastInDim S1024 ![] bcast_S_S1024 : (⟨S_, .i32⟩ : BufTy).Contents (Elt F) → (⟨S1024, .i32⟩ : BufTy).Contents (Elt F)),
    binary main_arg1 main_v0 main_v1 (cmpi .slt : (⟨S1024, .i32⟩ : BufTy).Contents (Elt F) → (⟨S1024, .i32⟩ : BufTy).Contents (Elt F) → (⟨S1024, .i1⟩ : BufTy).Contents (Elt F)),
    nullary main_c_0 (constantI S_ 32 131072#32),
    unary main_c_0 main_v2 (broadcastInDim S1024 ![] bcast_S_S1024 : (⟨S_, .i32⟩ : BufTy).Contents (Elt F) → (⟨S1024, .i32⟩ : BufTy).Contents (Elt F)),
    binary main_arg1 main_v2 main_v3 (addi : (⟨S1024, .i32⟩ : BufTy).Contents (Elt F) → (⟨S1024, .i32⟩ : BufTy).Contents (Elt F) → (⟨S1024, .i32⟩ : BufTy).Contents (Elt F)),
    ternary main_v1 main_v3 main_arg1 main_v4 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v4 main_v5 (broadcastInDim S1024x1 ![0] bcast_S1024_S1024x1_0 : (⟨S1024, .i32⟩ : BufTy).Contents (Elt F) → (⟨S1024x1, .i32⟩ : BufTy).Contents (Elt F)),
    binary main_arg0 main_v5 main_v6 ((fun x i => Host.gather gather_S131072x512_S1024x1_S1024x512_1_0_n_n_0_1_1512 x i) : (⟨S131072x512, .f32⟩ : BufTy).Contents (Elt F) → (⟨S1024x1, .i32⟩ : BufTy).Contents (Elt F) → (⟨S1024x512, .f32⟩ : BufTy).Contents (Elt F)) ]

/-- The program is that straight line. -/
theorem main_eq (c : Dev nD) : main (F := F) c = seq ops := rfl

/-- The fold of the operations, at the result's buffer; -/
theorem out_eq (V : Valuation τ sig (Elt F)) :
    after ops V (main_v6 : DevRef τ sig) = refOut (V (main_arg0 : DevRef τ sig)) (V (main_arg1 : DevRef τ sig)) := by
  after_results
  rfl
/-- no operation writes an argument. -/
theorem arg0_eq (V : Valuation τ sig (Elt F)) : after ops V (main_arg0 : DevRef τ sig) = V (main_arg0 : DevRef τ sig) := by
  after_results
theorem arg1_eq (V : Valuation τ sig (Elt F)) : after ops V (main_arg1 : DevRef τ sig) = V (main_arg1 : DevRef τ sig) := by
  after_results

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub ..,
    unary_bufs_sub .., binary_bufs_sub ..⟩

/-- What the reference's run ends with: the result's buffer at `refOut` of the arguments, the arguments unchanged, every counter zero. -/
def Final (m : (ℓ : Loc nD τ sig) → Buf (Elt F) ℓ) (s : MemSt nD τ sig (Elt F)) : Prop :=
  (∀ c : Dev nD, s.mem ((c.tc : Thread nD τ).loc main_v6)
        = refOut (m ((c.tc : Thread nD τ).loc main_arg0)) (m ((c.tc : Thread nD τ).loc main_arg1))
      ∧ s.mem ((c.tc : Thread nD τ).loc main_arg0) = m ((c.tc : Thread nD τ).loc main_arg0)
      ∧ s.mem ((c.tc : Thread nD τ).loc main_arg1) = m ((c.tc : Thread nD τ).loc main_arg1)) ∧ s.sem = fun _ => 0

/-- From any memory with zero counters, every weakly fair execution of the reference terminates so. -/
theorem run (m : (ℓ : Loc nD τ sig) → Buf (Elt F) ℓ) (ρ : Dev nD → PrngReg) :
    θ_run defs (onTc (τ := τ) (main (F := F))) ⟨m, fun _ => 0, ρ⟩ (fun r => Final m r.2) :=
  (θ_run defs _ _).mono
    (fun r h => ⟨fun c => ⟨(h c main_v6).trans (out_eq _), (h c main_arg0).trans (arg0_eq _), (h c main_arg1).trans (arg1_eq _)⟩,
      sem_eq_zero_of_no_sems (by decide) r.2⟩)
    (run_seq scopedRefs_eq scopedSems_eq defs main (fun _ => ops) main_eq (fun _ => ops_sub) m ρ)

/-! ## The result at an index -/

/-- An index read signed in `[0, b)` is the word of its natural value. -/
theorem word_of_toInt {v : BitVec 32} {b : Nat} (h : v.toInt = (b : Int)) : v = BitVec.ofNat 32 b := by
  have e := BitVec.ofInt_toInt (x := v)
  rw [h] at e
  rw [← e]; rfl

/-- A nonnegative index is read as it is. -/
theorem pick {v n : BitVec 32} (h : 0 ≤ v.toInt) : (if IntOp.cmpi .slt v 0#32 = 1#1 then IntOp.addi v n else v) = v := by
  refine if_neg fun e => ?_
  rw [IntOp.cmpi_slt] at e
  have : (0#32 : BitVec 32).toInt = 0 := by decide
  omega

/-- Where the index of a row is `b`, in range, the reference's row is row `b` of the table. -/
theorem refOut_apply (table : FVec F S131072x512 .f32) (idx : IVec S1024 32) (r : Fin 1024) (y : Fin 512) (b : Fin 131072)
    (hb : (idx (ValueIdx.ix1 r)).toInt = (b.val : Int)) : refOut table idx (ValueIdx.ix2 r y) = table (ValueIdx.ix2 b y) := by
  refine Routing.gather_row _ rfl rfl rfl rfl rfl table (starts idx) r y b ?_ (by norm_num)
  have e : starts idx (ValueIdx.ix2 r (0 : Fin 1)) = idx (ValueIdx.ix1 r) := by
    have := pick (v := idx (ValueIdx.ix1 r)) (n := 131072#32) (by omega)
    refine Eq.trans ?_ this
    refine congrArg (fun j => if IntOp.cmpi .slt (idx j) 0#32 = 1#1 then IntOp.addi (idx j) 131072#32 else idx j) ?_
    funext a
    obtain rfl : a = 0 := Subsingleton.elim _ _
    rfl
  rw [e]
  exact word_of_toInt hb

end Cert.ReferenceIdeal.Own

end
-- ==== Proof.KernelIdeal.Value.lean ====
/-
  What the kernel is given and what it returns, as values: the host operations leave every device the table rows it owns among those asked
  for, zeros in the others' place; at exact arithmetic the sum of these over the devices, which is what the kernel returns, is the row asked
  for when every index is in range.
-/
module

public import proofs.«01_k».proof.Proof.KernelIdeal.Run
public import proofs.«01_k».proof.Proof.Reference
public import proofs.«01_k».proof.Proof.Gen.Pre_in_range_KernelIdeal
public import Idealize.ShloMosaic.Lib.ReduceAll
public import Idealize.ShloMosaic.Lib.Layout
public import Idealize.ShloMosaic.PureOps.Ideal.Laws

@[expose] public section

noncomputable section

namespace Cert.KernelIdeal.Own

open Idealize.ShloMosaic Idealize.ShloMosaic.TcCoe Idealize.ShloMosaic.StableHlo
open Idealize.SL.Sem
open Cert.KernelIdeal.Gen

/-! ## What the host operations compute -/

section
variable {F : FTy → Type} [FloatOps F]

/-- The first row of the table that device `c` holds. -/
def base (c : Dev nD) : IVec S_ 32 :=
  muli (id (Host.remui (Host.divui (constantI S_ 32 (Dev.word c)) (constantI S_ 32 1#32)) (constantI S_ 32 32#32))) (constantI S_ 32 4096#32)

/-- The indices counted from there. -/
def rel (c : Dev nD) (idx : IVec S1024 32) : IVec S1024 32 := subi idx (broadcastInDim S1024 ![] bcast_S_S1024 (base c))

/-- Which of them are rows of device `c`. -/
def owned (c : Dev nD) (idx : IVec S1024 32) : IVec S1024 1 :=
  andi (cmpi .sge (rel c idx) (broadcastInDim S1024 ![] bcast_S_S1024 (constantI S_ 32 0#32)))
    (cmpi .slt (rel c idx) (broadcastInDim S1024 ![] bcast_S_S1024 (constantI S_ 32 4096#32)))

/-- The same indices clipped to rows of device `c`, -/
def clipped (c : Dev nD) (idx : IVec S1024 32) : IVec S1024 32 :=
  minsi (broadcastInDim S1024 ![] bcast_S_S1024 (id (constantI S_ 32 4095#32)))
    (maxsi (broadcastInDim S1024 ![] bcast_S_S1024 (id (constantI S_ 32 0#32))) (rel c idx))

/-- as the gather reads them. -/
def starts (c : Dev nD) (idx : IVec S1024 32) : IVec S1024x1 32 :=
  broadcastInDim S1024x1 ![0] bcast_S1024_S1024x1_0
    (select (cmpi .slt (clipped c idx) (broadcastInDim S1024 ![] bcast_S_S1024 (constantI S_ 32 0#32)))
      (addi (clipped c idx) (broadcastInDim S1024 ![] bcast_S_S1024 (constantI S_ 32 4096#32))) (clipped c idx))

/-- What device `c` gives the kernel: the rows it owns, zeros elsewhere. -/
def given (c : Dev nD) (table : FVec F S4096x512 .f32) (idx : IVec S1024 32) : FVec F S1024x512 .bf16 :=
  truncf .bf16
    (select (broadcastInDim S1024x512 ![0, 1] bcast_S1024x1_S1024x512_0_1 (broadcastInDim S1024x1 ![0] bcast_S1024_S1024x1_0 (owned c idx)))
      (Host.gather gather_S4096x512_S1024x1_S1024x512_1_0_n_n_0_1_1512 table (starts c idx))
      (broadcastInDim S1024x512 ![] bcast_S_S1024x512 (constant S_ .f32 0x00000000#32))) bitsLt_bf16_f32

variable (m : (ℓ : Loc nD τ sig) → Buf (Elt F) ℓ)

/-- Reading the host operations in order, that is what the kernel function is given. -/
theorem mine_eq (c : Dev nD) :
    mine (Vin m) c = given c (m ((c.tc : Thread nD τ).loc main_arg0)) (m ((c.tc : Thread nD τ).loc main_arg1)) := by
  unfold mine Vin
  after_results
  rfl
end

/-! ## The words at an index -/

theorem base_word : ∀ c : Dev nD,
    IntOp.muli (IntOp.remui .host (IntOp.divui .host (Dev.word c) 1#32) 32#32) 4096#32 = BitVec.ofNat 32 (4096 * c.val) := by decide +kernel

/-- An index of the whole table counted from device `c`'s first row. -/
theorem rel_toInt (c : Dev nD) (idx : IVec S1024 32) (i : S1024.Idx) (h0 : 0 ≤ (idx i).toInt) (h1 : (idx i).toInt < 131072) :
    (rel c idx i).toInt = (idx i).toInt - 4096 * c.val := by
  have hc : c.val < 32 := c.isLt
  have e : (BitVec.ofNat 32 (4096 * c.val)).toInt = ((4096 * c.val : Nat) : Int) := WordArith.toInt_ofNat_small _ (by omega)
  show (IntOp.subi (idx i) (IntOp.muli (IntOp.remui .host (IntOp.divui .host (Dev.word c) 1#32) 32#32) 4096#32)).toInt = _
  rw [base_word, WordArith.toInt_subi_of_nonneg _ _ h0 (by rw [e]; omega), e]
  push_cast
  rfl

/-- An index is device `c`'s exactly when, counted so, it is a row of the device. -/
theorem owned_iff (c : Dev nD) (idx : IVec S1024 32) (i : S1024.Idx) :
    owned c idx i = 1#1 ↔ 0 ≤ (rel c idx i).toInt ∧ (rel c idx i).toInt < 4096 := by
  show IntOp.andi (IntOp.cmpi .sge (rel c idx i) 0#32) (IntOp.cmpi .slt (rel c idx i) 4096#32) = 1#1 ↔ _
  rw [IntOp.andi_eq_one, IntOp.cmpi_sge, IntOp.cmpi_slt]
  rfl

/-- Clipping leaves the device's own indices as they are. -/
theorem clipped_owned (c : Dev nD) (idx : IVec S1024 32) (i : S1024.Idx) (h0 : 0 ≤ (rel c idx i).toInt) (h1 : (rel c idx i).toInt < 4096) :
    clipped c idx i = rel c idx i := by
  show IntOp.minsi 4095#32 (IntOp.maxsi 0#32 (rel c idx i)) = _
  have e : IntOp.maxsi 0#32 (rel c idx i) = rel c idx i := BitVec.eq_of_toInt_eq (by rw [WordArith.toInt_maxsi_zero]; omega)
  have k : (4095#32 : BitVec 32).toInt = 4095 := by decide
  rw [e]
  unfold IntOp.minsi
  by_cases h : (4095#32 : BitVec 32).slt (rel c idx i) = true
  · rw [if_pos h]
    rw [BitVec.slt_iff_toInt_lt] at h
    omega
  · rw [if_neg h]

/-- The row a device's own index gathers. -/
theorem starts_owned (c : Dev nD) (idx : IVec S1024 32) (r : Fin 1024) (b : Nat) (hb : b < 4096)
    (e : (rel c idx (ValueIdx.ix1 r)).toInt = (b : Int)) : starts c idx (ValueIdx.ix2 r (0 : Fin 1)) = BitVec.ofNat 32 b := by
  have k : clipped c idx (ValueIdx.ix1 r) = rel c idx (ValueIdx.ix1 r) := clipped_owned c idx _ (by omega) (by omega)
  have h := ReferenceIdeal.Own.pick (v := clipped c idx (ValueIdx.ix1 r)) (n := 4096#32) (by rw [k]; omega)
  refine Eq.trans ?_ (h.trans (k.trans (ReferenceIdeal.Own.word_of_toInt e)))
  refine congrArg (fun j => if IntOp.cmpi .slt (clipped c idx j) 0#32 = 1#1 then IntOp.addi (clipped c idx j) 4096#32 else clipped c idx j) ?_
  funext a
  obtain rfl : a = 0 := Subsingleton.elim _ _
  rfl

/-! ## The values at exact arithmetic -/

/-- What device `c` gives the kernel at `(r, y)`, at exact arithmetic: its table's row if the index is its own, zero otherwise. -/
theorem given_apply (c : Dev nD) (table : FVec Ideal S4096x512 .f32) (idx : IVec S1024 32) (r : Fin 1024) (y : Fin 512) :
    given c table idx (ValueIdx.ix2 r y)
      = if owned c idx (ValueIdx.ix1 r) = 1#1 then
          (Host.gather gather_S4096x512_S1024x1_S1024x512_1_0_n_n_0_1_1512 table (starts c idx) (ValueIdx.ix2 r y) : EReal) else 0 := by
  have e : (broadcastInDim S1024x512 ![0, 1] bcast_S1024x1_S1024x512_0_1 (broadcastInDim S1024x1 ![0] bcast_S1024_S1024x1_0 (owned c idx)))
      (ValueIdx.ix2 r y) = owned c idx (ValueIdx.ix1 r) := by
    refine congrArg (owned c idx) ?_
    funext a
    obtain rfl : a = 0 := Subsingleton.elim _ _
    rfl
  show (if _ = 1#1 then _ else Ideal.ofBits .f32 0x00000000#32) = _
  rw [e, Ideal.ofBits_zero_f32]

/-- The sum over the ring as the device's own term and its thirty-one predecessors'. -/
theorem ring_sum (f : Dev nD → EReal) (c : Dev nD) : f c + ∑ k : Fin 31, f (peer c k.rev) = ∑ d : Dev nD, f d := by
  rw [← Finset.add_sum_erase _ _ (Finset.mem_univ c), erase_eq, Finset.sum_map]
  refine congrArg (f c + ·) ?_
  exact Equiv.sum_comp Fin.revPerm (fun k => f (peer c k))

/-- At exact arithmetic, the sum over the slots of the landing array. -/
theorem slots_sum (v : FVec Ideal S31x32x512 .f32) (hφ : FKind.Formats .f32) (hacc : (0x00000000#32 : BitVec 32) = FKind.add.neutral .f32 hφ)
    (y : S32x512.Idx) :
    multiReduction .add [0] S32x512 v 0x00000000#32 reduces_S31x32x512_S32x512 hφ hacc y = ∑ k : Fin 31, (v (slotAt k y) : EReal) := by
  refine (Ideal.multiReduction_add_single v _ reduces_S31x32x512_S32x512 hφ hacc y).trans ?_
  refine Finset.sum_congr rfl fun k _ => congrArg v ?_
  exact idx3_ext rfl rfl rfl

/-- Device `c`'s rows of the result at exact arithmetic: the sum of what the devices give for those rows. -/
theorem red_apply (x : Dev nD → Arr Ideal) (c : Dev nD) (y : S32x512.Idx) : (red x c y : EReal) = ∑ d : Dev nD, (x d (rowAt c y) : EReal) := by
  rw [← ring_sum (fun d => (x d (rowAt c y) : EReal)) c]
  have h : (red x c y : EReal) = FloatOps.addf (F := Ideal) (φ := .f32) (x c (rowAt c y))
      (multiReduction (F := Ideal) (φ := .f32) .add [0] S32x512 (extf .f32 (land x c) bitsLt_bf16_f32) 0x00000000#32 reduces_S31x32x512_S32x512 (.inl rfl) rfl y) := by
    unfold red k0_pay2 k0_pay1
    simp only [shapeCast_self]
    rfl
  rw [h]
  exact congrArg ((x c (rowAt c y) : EReal) + ·) (slots_sum _ _ _ y)

/-- The kernel's result at exact arithmetic: the sum of what the devices give. -/
theorem out_apply (x : Dev nD → Arr Ideal) (p : S1024x512.Idx) : (out x p : EReal) = ∑ d : Dev nD, (x d p : EReal) := by
  have h := red_apply x (devOf p) (within p)
  rw [rowAt_within] at h
  exact h

/-- From tables that are the thirty-two blocks of one table and indices in range, the kernel's result at exact arithmetic is the reference's. -/
theorem out_eq_ref (table : Dev nD → FVec Ideal S4096x512 .f32) (whole : FVec Ideal ReferenceIdeal.S131072x512 .f32) (idx : IVec S1024 32)
    (ht : ∀ c : Dev nD, table c = Layout.block ⟨2, ![4096, 512]⟩ ⟨2, ![131072, 512]⟩ 0 32 c whole)
    (hi : ∀ i, 0 ≤ (idx i).toInt ∧ (idx i).toInt < 131072) :
    (out (fun c => given c (table c) idx) : S1024x512.Idx → EReal) = ReferenceIdeal.Own.refOut (F := Ideal) whole idx := by
  funext p
  obtain ⟨r, y, rfl⟩ : ∃ r y, p = ValueIdx.ix2 r y := ⟨_, _, ValueIdx.eq_ix2 p⟩
  obtain ⟨h0, h1⟩ := hi (ValueIdx.ix1 r)
  obtain ⟨t, et⟩ := Int.eq_ofNat_of_zero_le h0
  have ht32 : t < 131072 := by omega
  have rt := fun c => rel_toInt c idx (ValueIdx.ix1 r) h0 h1
  rw [out_apply, ReferenceIdeal.Own.refOut_apply whole idx r y ⟨t, ht32⟩ et]
  let e : Dev nD := ⟨t / 4096, by show _ < 32; omega⟩
  rw [Finset.sum_eq_single e]
  · have hr : (rel e idx (ValueIdx.ix1 r)).toInt = ((t % 4096 : Nat) : Int) := by
      rw [rt, et]; show (t : Int) - 4096 * ((t / 4096 : Nat) : Int) = _; omega
    have hl : t % 4096 < 4096 := Nat.mod_lt _ (by decide)
    rw [given_apply, if_pos ((owned_iff e idx _).mpr (by omega)),
      Routing.gather_row _ rfl rfl rfl rfl rfl (table e) (starts e idx) r y ⟨t % 4096, hl⟩ (starts_owned e idx r _ hl hr) (by norm_num), ht]
    rw [Layout.block_apply]
    refine congrArg whole (funext fun a => Fin.ext ?_)
    fin_cases a
    · show t / 4096 * 4096 + t % 4096 = t
      omega
    · rfl
  · intro d _ hd
    rw [given_apply, if_neg]
    rw [owned_iff, rt, et]
    intro h
    exact hd (Fin.ext (by show d.val = t / 4096; omega))
  · exact fun h => absurd (Finset.mem_univ _) h

/-! ## The precondition -/

/-- The precondition says that every index names a row of the whole table. -/
theorem in_range (table : FVec Ideal S4096x512 .f32) (idx : IVec S1024 32)
    (h : Cert.Pre_in_range_KernelIdeal.fn (F := Ideal) table idx = fun _ => 1#1) (i : S1024.Idx) : 0 ≤ (idx i).toInt ∧ (idx i).toInt < 131072 := by
  have hs : Subsingleton Cert.Pre_in_range_KernelIdeal.S_.Idx := ⟨fun a b => funext fun k => k.elim0⟩
  have k := Host.reduce_andi_all _ _ _ _ (fun a => a.elim0) (congrFun h _) i
  have k' := IntOp.andi_eq_one.mp k
  exact ⟨IntOp.cmpi_sge.mp k'.1, IntOp.cmpi_slt.mp k'.2⟩

end Cert.KernelIdeal.Own

end
-- ==== Proof.lean ====
/-
  The certificate of the distributed table lookup. Frames: both readings of the kernel's program, and the reference, run from any memory,
  leave their arguments alone and every counter at zero. The value: at exact arithmetic, with every index naming a row of the table, every
  device ends holding the reference's result.
-/
module

public import proofs.«01_k».proof.Defs
public import proofs.«01_k».proof.Proof.Kernel.Run
public import proofs.«01_k».proof.Proof.KernelIdeal.Value
public import proofs.«01_k».proof.Proof.Reference
public import proofs.«01_k».proof.Proof.Gen.Pre_in_range_KernelIdeal
public import proofs.«01_k».proof.Proof.Gen.Pre_in_range_ReferenceIdeal

@[expose] public section

noncomputable section

namespace Cert.Proof

open Idealize.ShloMosaic Idealize.SL.Sem

/-- The kernel's program at its own float formats: its run with the result dropped. -/
theorem frame_kernel : Cert.quiescent_Kernel := fun m ρ _ =>
  (θ_run Cert.Kernel.defs _ _).mono (fun _ h => ⟨fun c => ⟨(h.1 c).1, (h.1 c).2.1⟩, h.2⟩) (Cert.Kernel.Own.run m ρ)

/-- The same program at exact arithmetic. -/
theorem frame_ideal : Cert.quiescent_KernelIdeal := fun m ρ _ =>
  (θ_run Cert.KernelIdeal.defs _ _).mono (fun _ h => ⟨fun c => ⟨(h.1 c).1, (h.1 c).2.1⟩, h.2⟩) (Cert.KernelIdeal.Own.run m ρ)

/-- The reference. -/
theorem frame_reference : Cert.quiescent_ReferenceIdeal := fun m ρ _ =>
  (θ_run Cert.ReferenceIdeal.defs _ _).mono (fun _ h => ⟨fun c => (h.1 c).2, h.2⟩) (Cert.ReferenceIdeal.Own.run m ρ)

/-- On every device the kernel's program ends with the reference's result: what each device gives is a function of its block of the table and
    of the indices, and the sum of these over the devices is the row asked for. -/
theorem value : Cert.algebraic_KernelIdeal_ReferenceIdeal_pre_in_range_KernelIdeal := by
  intro m ρ m' ρ' hpre hargs
  refine ⟨_, (θ_run Cert.KernelIdeal.defs _ _).mono (fun _ h c => ⟨(h.1 c).2.2.trans ?_, (h.1 c).1, (h.1 c).2.1⟩) (Cert.KernelIdeal.Own.run m ρ),
    (θ_run Cert.ReferenceIdeal.defs _ _).mono (fun _ h => h.1 0) (Cert.ReferenceIdeal.Own.run m' ρ')⟩
  have hmine : Cert.KernelIdeal.Own.mine (Cert.KernelIdeal.Own.Vin m) = fun c => Cert.KernelIdeal.Own.given (F := Ideal) c
      (m ((c.tc : Thread Cert.KernelIdeal.nD Cert.KernelIdeal.τ).loc Cert.KernelIdeal.main_arg0))
      (m' (((0 : Dev Cert.ReferenceIdeal.nD).tc : Thread Cert.ReferenceIdeal.nD Cert.ReferenceIdeal.τ).loc Cert.ReferenceIdeal.main_arg1)) := by
    funext c
    rw [Cert.KernelIdeal.Own.mine_eq, (hargs c).2]
  rw [hmine]
  refine Cert.KernelIdeal.Own.out_eq_ref _ _ _ (fun c => (hargs c).1) fun i => ?_
  have h := Cert.KernelIdeal.Own.in_range _ _ (hpre 0) i
  rwa [(hargs 0).2] at h

/-- Every claim of the certificate. -/
theorem claim : Cert.Claim :=
  ⟨Cert.Kernel.Gen.facts, Cert.KernelIdeal.Gen.facts, Cert.ReferenceIdeal.Gen.facts, Cert.Pre_in_range_KernelIdeal.Gen.facts,
    Cert.Pre_in_range_ReferenceIdeal.Gen.facts, frame_kernel, frame_ideal, fun m ρ _ => frame_ideal m ρ trivial, frame_reference,
    fun m ρ _ => frame_reference m ρ trivial, trivial, value⟩

end Cert.Proof

end
